-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prob (m : (ℓ : Loc Cert.Prob.nD Cert.Prob.τ Cert.Prob.sig) → Buf (Elt Bits) ℓ) : Prop :=
  True

def Pre_ProbIdeal (m : (ℓ : Loc Cert.ProbIdeal.nD Cert.ProbIdeal.τ Cert.ProbIdeal.sig) → Buf (Elt Ideal) ℓ) : Prop :=
  True

def Pre_ProbReferenceIdeal (m : (ℓ : Loc Cert.ProbReferenceIdeal.nD Cert.ProbReferenceIdeal.τ Cert.ProbReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Prob [hProb : Cert.Prob.Facts] : Prop :=
  ∀ (m : (ℓ : Loc Cert.Prob.nD Cert.Prob.τ Cert.Prob.sig) → Buf (Elt Bits) ℓ) (g : Dev Cert.Prob.nD → PrngReg), Pre_Prob m →
    θ_run (Cert.Prob.defs (F := Bits)) (onTc (τ := Cert.Prob.τ) (Cert.Prob.main (F := Bits))) ⟨m, fun _ => 0, g⟩ (fun r => (∀ c : Dev Cert.Prob.nD,
      r.2.mem ((c.tc : Thread Cert.Prob.nD Cert.Prob.τ).loc Cert.Prob.main_arg0) = m ((c.tc : Thread Cert.Prob.nD Cert.Prob.τ).loc Cert.Prob.main_arg0)
      ∧ r.2.mem ((c.tc : Thread Cert.Prob.nD Cert.Prob.τ).loc Cert.Prob.main_arg1) = m ((c.tc : Thread Cert.Prob.nD Cert.Prob.τ).loc Cert.Prob.main_arg1)
      ∧ r.2.mem ((c.tc : Thread Cert.Prob.nD Cert.Prob.τ).loc Cert.Prob.main_arg2) = m ((c.tc : Thread Cert.Prob.nD Cert.Prob.τ).loc Cert.Prob.main_arg2)
      ∧ r.2.mem ((c.tc : Thread Cert.Prob.nD Cert.Prob.τ).loc Cert.Prob.main_arg3) = m ((c.tc : Thread Cert.Prob.nD Cert.Prob.τ).loc Cert.Prob.main_arg3)
      ∧ r.2.mem ((c.tc : Thread Cert.Prob.nD Cert.Prob.τ).loc Cert.Prob.main_arg4) = m ((c.tc : Thread Cert.Prob.nD Cert.Prob.τ).loc Cert.Prob.main_arg4)
      ∧ r.2.mem ((c.tc : Thread Cert.Prob.nD Cert.Prob.τ).loc Cert.Prob.main_arg5) = m ((c.tc : Thread Cert.Prob.nD Cert.Prob.τ).loc Cert.Prob.main_arg5)
      ∧ r.2.mem ((c.tc : Thread Cert.Prob.nD Cert.Prob.τ).loc Cert.Prob.main_arg6) = m ((c.tc : Thread Cert.Prob.nD Cert.Prob.τ).loc Cert.Prob.main_arg6)
      ∧ r.2.mem ((c.tc : Thread Cert.Prob.nD Cert.Prob.τ).loc Cert.Prob.main_arg7) = m ((c.tc : Thread Cert.Prob.nD Cert.Prob.τ).loc Cert.Prob.main_arg7)
      ∧ r.2.mem ((c.tc : Thread Cert.Prob.nD Cert.Prob.τ).loc Cert.Prob.main_arg8) = m ((c.tc : Thread Cert.Prob.nD Cert.Prob.τ).loc Cert.Prob.main_arg8)
      ∧ r.2.mem ((c.tc : Thread Cert.Prob.nD Cert.Prob.τ).loc Cert.Prob.main_arg9) = m ((c.tc : Thread Cert.Prob.nD Cert.Prob.τ).loc Cert.Prob.main_arg9)
      ∧ r.2.mem ((c.tc : Thread Cert.Prob.nD Cert.Prob.τ).loc Cert.Prob.main_arg10) = m ((c.tc : Thread Cert.Prob.nD Cert.Prob.τ).loc Cert.Prob.main_arg10)
      ∧ r.2.mem ((c.tc : Thread Cert.Prob.nD Cert.Prob.τ).loc Cert.Prob.main_arg11) = m ((c.tc : Thread Cert.Prob.nD Cert.Prob.τ).loc Cert.Prob.main_arg11)
      ∧ r.2.mem ((c.tc : Thread Cert.Prob.nD Cert.Prob.τ).loc Cert.Prob.main_arg12) = m ((c.tc : Thread Cert.Prob.nD Cert.Prob.τ).loc Cert.Prob.main_arg12))
      ∧ r.2.sem = fun _ => 0)

def quiescent_ProbIdeal [hProbIdeal : Cert.ProbIdeal.Facts] : Prop :=
  ∀ (m : (ℓ : Loc Cert.ProbIdeal.nD Cert.ProbIdeal.τ Cert.ProbIdeal.sig) → Buf (Elt Ideal) ℓ) (g : Dev Cert.ProbIdeal.nD → PrngReg), Pre_ProbIdeal m →
    θ_run (Cert.ProbIdeal.defs (F := Ideal)) (onTc (τ := Cert.ProbIdeal.τ) (Cert.ProbIdeal.main (F := Ideal))) ⟨m, fun _ => 0, g⟩ (fun r => (∀ c : Dev Cert.ProbIdeal.nD,
      r.2.mem ((c.tc : Thread Cert.ProbIdeal.nD Cert.ProbIdeal.τ).loc Cert.ProbIdeal.main_arg0) = m ((c.tc : Thread Cert.ProbIdeal.nD Cert.ProbIdeal.τ).loc Cert.ProbIdeal.main_arg0)
      ∧ r.2.mem ((c.tc : Thread Cert.ProbIdeal.nD Cert.ProbIdeal.τ).loc Cert.ProbIdeal.main_arg1) = m ((c.tc : Thread Cert.ProbIdeal.nD Cert.ProbIdeal.τ).loc Cert.ProbIdeal.main_arg1)
      ∧ r.2.mem ((c.tc : Thread Cert.ProbIdeal.nD Cert.ProbIdeal.τ).loc Cert.ProbIdeal.main_arg2) = m ((c.tc : Thread Cert.ProbIdeal.nD Cert.ProbIdeal.τ).loc Cert.ProbIdeal.main_arg2)
      ∧ r.2.mem ((c.tc : Thread Cert.ProbIdeal.nD Cert.ProbIdeal.τ).loc Cert.ProbIdeal.main_arg3) = m ((c.tc : Thread Cert.ProbIdeal.nD Cert.ProbIdeal.τ).loc Cert.ProbIdeal.main_arg3)
      ∧ r.2.mem ((c.tc : Thread Cert.ProbIdeal.nD Cert.ProbIdeal.τ).loc Cert.ProbIdeal.main_arg4) = m ((c.tc : Thread Cert.ProbIdeal.nD Cert.ProbIdeal.τ).loc Cert.ProbIdeal.main_arg4)
      ∧ r.2.mem ((c.tc : Thread Cert.ProbIdeal.nD Cert.ProbIdeal.τ).loc Cert.ProbIdeal.main_arg5) = m ((c.tc : Thread Cert.ProbIdeal.nD Cert.ProbIdeal.τ).loc Cert.ProbIdeal.main_arg5)
      ∧ r.2.mem ((c.tc : Thread Cert.ProbIdeal.nD Cert.ProbIdeal.τ).loc Cert.ProbIdeal.main_arg6) = m ((c.tc : Thread Cert.ProbIdeal.nD Cert.ProbIdeal.τ).loc Cert.ProbIdeal.main_arg6)
      ∧ r.2.mem ((c.tc : Thread Cert.ProbIdeal.nD Cert.ProbIdeal.τ).loc Cert.ProbIdeal.main_arg7) = m ((c.tc : Thread Cert.ProbIdeal.nD Cert.ProbIdeal.τ).loc Cert.ProbIdeal.main_arg7)
      ∧ r.2.mem ((c.tc : Thread Cert.ProbIdeal.nD Cert.ProbIdeal.τ).loc Cert.ProbIdeal.main_arg8) = m ((c.tc : Thread Cert.ProbIdeal.nD Cert.ProbIdeal.τ).loc Cert.ProbIdeal.main_arg8)
      ∧ r.2.mem ((c.tc : Thread Cert.ProbIdeal.nD Cert.ProbIdeal.τ).loc Cert.ProbIdeal.main_arg9) = m ((c.tc : Thread Cert.ProbIdeal.nD Cert.ProbIdeal.τ).loc Cert.ProbIdeal.main_arg9)
      ∧ r.2.mem ((c.tc : Thread Cert.ProbIdeal.nD Cert.ProbIdeal.τ).loc Cert.ProbIdeal.main_arg10) = m ((c.tc : Thread Cert.ProbIdeal.nD Cert.ProbIdeal.τ).loc Cert.ProbIdeal.main_arg10)
      ∧ r.2.mem ((c.tc : Thread Cert.ProbIdeal.nD Cert.ProbIdeal.τ).loc Cert.ProbIdeal.main_arg11) = m ((c.tc : Thread Cert.ProbIdeal.nD Cert.ProbIdeal.τ).loc Cert.ProbIdeal.main_arg11)
      ∧ r.2.mem ((c.tc : Thread Cert.ProbIdeal.nD Cert.ProbIdeal.τ).loc Cert.ProbIdeal.main_arg12) = m ((c.tc : Thread Cert.ProbIdeal.nD Cert.ProbIdeal.τ).loc Cert.ProbIdeal.main_arg12))
      ∧ r.2.sem = fun _ => 0)

def quiescent_ProbReferenceIdeal [hProbReferenceIdeal : Cert.ProbReferenceIdeal.Facts] : Prop :=
  ∀ (m : (ℓ : Loc Cert.ProbReferenceIdeal.nD Cert.ProbReferenceIdeal.τ Cert.ProbReferenceIdeal.sig) → Buf (Elt Ideal) ℓ) (g : Dev Cert.ProbReferenceIdeal.nD → PrngReg), Pre_ProbReferenceIdeal m →
    θ_run (Cert.ProbReferenceIdeal.defs (F := Ideal)) (onTc (τ := Cert.ProbReferenceIdeal.τ) (Cert.ProbReferenceIdeal.main (F := Ideal))) ⟨m, fun _ => 0, g⟩ (fun r => (∀ c : Dev Cert.ProbReferenceIdeal.nD,
      r.2.mem ((c.tc : Thread Cert.ProbReferenceIdeal.nD Cert.ProbReferenceIdeal.τ).loc Cert.ProbReferenceIdeal.main_arg0) = m ((c.tc : Thread Cert.ProbReferenceIdeal.nD Cert.ProbReferenceIdeal.τ).loc Cert.ProbReferenceIdeal.main_arg0)
      ∧ r.2.mem ((c.tc : Thread Cert.ProbReferenceIdeal.nD Cert.ProbReferenceIdeal.τ).loc Cert.ProbReferenceIdeal.main_arg1) = m ((c.tc : Thread Cert.ProbReferenceIdeal.nD Cert.ProbReferenceIdeal.τ).loc Cert.ProbReferenceIdeal.main_arg1)
      ∧ r.2.mem ((c.tc : Thread Cert.ProbReferenceIdeal.nD Cert.ProbReferenceIdeal.τ).loc Cert.ProbReferenceIdeal.main_arg2) = m ((c.tc : Thread Cert.ProbReferenceIdeal.nD Cert.ProbReferenceIdeal.τ).loc Cert.ProbReferenceIdeal.main_arg2)
      ∧ r.2.mem ((c.tc : Thread Cert.ProbReferenceIdeal.nD Cert.ProbReferenceIdeal.τ).loc Cert.ProbReferenceIdeal.main_arg3) = m ((c.tc : Thread Cert.ProbReferenceIdeal.nD Cert.ProbReferenceIdeal.τ).loc Cert.ProbReferenceIdeal.main_arg3)
      ∧ r.2.mem ((c.tc : Thread Cert.ProbReferenceIdeal.nD Cert.ProbReferenceIdeal.τ).loc Cert.ProbReferenceIdeal.main_arg4) = m ((c.tc : Thread Cert.ProbReferenceIdeal.nD Cert.ProbReferenceIdeal.τ).loc Cert.ProbReferenceIdeal.main_arg4)
      ∧ r.2.mem ((c.tc : Thread Cert.ProbReferenceIdeal.nD Cert.ProbReferenceIdeal.τ).loc Cert.ProbReferenceIdeal.main_arg5) = m ((c.tc : Thread Cert.ProbReferenceIdeal.nD Cert.ProbReferenceIdeal.τ).loc Cert.ProbReferenceIdeal.main_arg5)
      ∧ r.2.mem ((c.tc : Thread Cert.ProbReferenceIdeal.nD Cert.ProbReferenceIdeal.τ).loc Cert.ProbReferenceIdeal.main_arg6) = m ((c.tc : Thread Cert.ProbReferenceIdeal.nD Cert.ProbReferenceIdeal.τ).loc Cert.ProbReferenceIdeal.main_arg6)
      ∧ r.2.mem ((c.tc : Thread Cert.ProbReferenceIdeal.nD Cert.ProbReferenceIdeal.τ).loc Cert.ProbReferenceIdeal.main_arg7) = m ((c.tc : Thread Cert.ProbReferenceIdeal.nD Cert.ProbReferenceIdeal.τ).loc Cert.ProbReferenceIdeal.main_arg7)
      ∧ r.2.mem ((c.tc : Thread Cert.ProbReferenceIdeal.nD Cert.ProbReferenceIdeal.τ).loc Cert.ProbReferenceIdeal.main_arg8) = m ((c.tc : Thread Cert.ProbReferenceIdeal.nD Cert.ProbReferenceIdeal.τ).loc Cert.ProbReferenceIdeal.main_arg8)
      ∧ r.2.mem ((c.tc : Thread Cert.ProbReferenceIdeal.nD Cert.ProbReferenceIdeal.τ).loc Cert.ProbReferenceIdeal.main_arg9) = m ((c.tc : Thread Cert.ProbReferenceIdeal.nD Cert.ProbReferenceIdeal.τ).loc Cert.ProbReferenceIdeal.main_arg9)
      ∧ r.2.mem ((c.tc : Thread Cert.ProbReferenceIdeal.nD Cert.ProbReferenceIdeal.τ).loc Cert.ProbReferenceIdeal.main_arg10) = m ((c.tc : Thread Cert.ProbReferenceIdeal.nD Cert.ProbReferenceIdeal.τ).loc Cert.ProbReferenceIdeal.main_arg10)
      ∧ r.2.mem ((c.tc : Thread Cert.ProbReferenceIdeal.nD Cert.ProbReferenceIdeal.τ).loc Cert.ProbReferenceIdeal.main_arg11) = m ((c.tc : Thread Cert.ProbReferenceIdeal.nD Cert.ProbReferenceIdeal.τ).loc Cert.ProbReferenceIdeal.main_arg11)
      ∧ r.2.mem ((c.tc : Thread Cert.ProbReferenceIdeal.nD Cert.ProbReferenceIdeal.τ).loc Cert.ProbReferenceIdeal.main_arg12) = m ((c.tc : Thread Cert.ProbReferenceIdeal.nD Cert.ProbReferenceIdeal.τ).loc Cert.ProbReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Prob_ProbIdeal : Prop :=
  True

def algebraic_ProbIdeal_ProbReferenceIdeal [hProbIdeal : Cert.ProbIdeal.Facts] [hProbReferenceIdeal : Cert.ProbReferenceIdeal.Facts] : Prop :=
  ∀ (m : (ℓ : Loc Cert.ProbIdeal.nD Cert.ProbIdeal.τ Cert.ProbIdeal.sig) → Buf (Elt Ideal) ℓ) (g : Dev Cert.ProbIdeal.nD → PrngReg)
    (m' : (ℓ : Loc Cert.ProbReferenceIdeal.nD Cert.ProbReferenceIdeal.τ Cert.ProbReferenceIdeal.sig) → Buf (Elt Ideal) ℓ) (g' : Dev Cert.ProbReferenceIdeal.nD → PrngReg), Pre_ProbIdeal m →
    (∀ c : Dev Cert.ProbIdeal.nD,
      m' ((c.tc : Thread Cert.ProbReferenceIdeal.nD Cert.ProbReferenceIdeal.τ).loc Cert.ProbReferenceIdeal.main_arg0) = m ((c.tc : Thread Cert.ProbIdeal.nD Cert.ProbIdeal.τ).loc Cert.ProbIdeal.main_arg0)
      ∧ m' ((c.tc : Thread Cert.ProbReferenceIdeal.nD Cert.ProbReferenceIdeal.τ).loc Cert.ProbReferenceIdeal.main_arg1) = m ((c.tc : Thread Cert.ProbIdeal.nD Cert.ProbIdeal.τ).loc Cert.ProbIdeal.main_arg1)
      ∧ m' ((c.tc : Thread Cert.ProbReferenceIdeal.nD Cert.ProbReferenceIdeal.τ).loc Cert.ProbReferenceIdeal.main_arg2) = m ((c.tc : Thread Cert.ProbIdeal.nD Cert.ProbIdeal.τ).loc Cert.ProbIdeal.main_arg2)
      ∧ m' ((c.tc : Thread Cert.ProbReferenceIdeal.nD Cert.ProbReferenceIdeal.τ).loc Cert.ProbReferenceIdeal.main_arg3) = m ((c.tc : Thread Cert.ProbIdeal.nD Cert.ProbIdeal.τ).loc Cert.ProbIdeal.main_arg3)
      ∧ m' ((c.tc : Thread Cert.ProbReferenceIdeal.nD Cert.ProbReferenceIdeal.τ).loc Cert.ProbReferenceIdeal.main_arg4) = m ((c.tc : Thread Cert.ProbIdeal.nD Cert.ProbIdeal.τ).loc Cert.ProbIdeal.main_arg4)
      ∧ m' ((c.tc : Thread Cert.ProbReferenceIdeal.nD Cert.ProbReferenceIdeal.τ).loc Cert.ProbReferenceIdeal.main_arg5) = m ((c.tc : Thread Cert.ProbIdeal.nD Cert.ProbIdeal.τ).loc Cert.ProbIdeal.main_arg5)
      ∧ m' ((c.tc : Thread Cert.ProbReferenceIdeal.nD Cert.ProbReferenceIdeal.τ).loc Cert.ProbReferenceIdeal.main_arg6) = m ((c.tc : Thread Cert.ProbIdeal.nD Cert.ProbIdeal.τ).loc Cert.ProbIdeal.main_arg6)
      ∧ m' ((c.tc : Thread Cert.ProbReferenceIdeal.nD Cert.ProbReferenceIdeal.τ).loc Cert.ProbReferenceIdeal.main_arg7) = m ((c.tc : Thread Cert.ProbIdeal.nD Cert.ProbIdeal.τ).loc Cert.ProbIdeal.main_arg7)
      ∧ m' ((c.tc : Thread Cert.ProbReferenceIdeal.nD Cert.ProbReferenceIdeal.τ).loc Cert.ProbReferenceIdeal.main_arg8) = m ((c.tc : Thread Cert.ProbIdeal.nD Cert.ProbIdeal.τ).loc Cert.ProbIdeal.main_arg8)
      ∧ m' ((c.tc : Thread Cert.ProbReferenceIdeal.nD Cert.ProbReferenceIdeal.τ).loc Cert.ProbReferenceIdeal.main_arg9) = m ((c.tc : Thread Cert.ProbIdeal.nD Cert.ProbIdeal.τ).loc Cert.ProbIdeal.main_arg9)
      ∧ m' ((c.tc : Thread Cert.ProbReferenceIdeal.nD Cert.ProbReferenceIdeal.τ).loc Cert.ProbReferenceIdeal.main_arg10) = m ((c.tc : Thread Cert.ProbIdeal.nD Cert.ProbIdeal.τ).loc Cert.ProbIdeal.main_arg10)
      ∧ m' ((c.tc : Thread Cert.ProbReferenceIdeal.nD Cert.ProbReferenceIdeal.τ).loc Cert.ProbReferenceIdeal.main_arg11) = m ((c.tc : Thread Cert.ProbIdeal.nD Cert.ProbIdeal.τ).loc Cert.ProbIdeal.main_arg11)
      ∧ m' ((c.tc : Thread Cert.ProbReferenceIdeal.nD Cert.ProbReferenceIdeal.τ).loc Cert.ProbReferenceIdeal.main_arg12) = m ((c.tc : Thread Cert.ProbIdeal.nD Cert.ProbIdeal.τ).loc Cert.ProbIdeal.main_arg12)) →
    ∃ (v0 : (c : Dev Cert.ProbIdeal.nD) → Buf (Elt Ideal) ((c.tc : Thread Cert.ProbIdeal.nD Cert.ProbIdeal.τ).loc Cert.ProbIdeal.main_v12)),
      θ_run (Cert.ProbIdeal.defs (F := Ideal)) (onTc (τ := Cert.ProbIdeal.τ) (Cert.ProbIdeal.main (F := Ideal))) ⟨m, fun _ => 0, g⟩ (fun r => ∀ c : Dev Cert.ProbIdeal.nD,
          r.2.mem ((c.tc : Thread Cert.ProbIdeal.nD Cert.ProbIdeal.τ).loc Cert.ProbIdeal.main_v12) = v0 c
          ∧ r.2.mem ((c.tc : Thread Cert.ProbIdeal.nD Cert.ProbIdeal.τ).loc Cert.ProbIdeal.main_arg0) = m ((c.tc : Thread Cert.ProbIdeal.nD Cert.ProbIdeal.τ).loc Cert.ProbIdeal.main_arg0)
          ∧ r.2.mem ((c.tc : Thread Cert.ProbIdeal.nD Cert.ProbIdeal.τ).loc Cert.ProbIdeal.main_arg1) = m ((c.tc : Thread Cert.ProbIdeal.nD Cert.ProbIdeal.τ).loc Cert.ProbIdeal.main_arg1)
          ∧ r.2.mem ((c.tc : Thread Cert.ProbIdeal.nD Cert.ProbIdeal.τ).loc Cert.ProbIdeal.main_arg2) = m ((c.tc : Thread Cert.ProbIdeal.nD Cert.ProbIdeal.τ).loc Cert.ProbIdeal.main_arg2)
          ∧ r.2.mem ((c.tc : Thread Cert.ProbIdeal.nD Cert.ProbIdeal.τ).loc Cert.ProbIdeal.main_arg3) = m ((c.tc : Thread Cert.ProbIdeal.nD Cert.ProbIdeal.τ).loc Cert.ProbIdeal.main_arg3)
          ∧ r.2.mem ((c.tc : Thread Cert.ProbIdeal.nD Cert.ProbIdeal.τ).loc Cert.ProbIdeal.main_arg4) = m ((c.tc : Thread Cert.ProbIdeal.nD Cert.ProbIdeal.τ).loc Cert.ProbIdeal.main_arg4)
          ∧ r.2.mem ((c.tc : Thread Cert.ProbIdeal.nD Cert.ProbIdeal.τ).loc Cert.ProbIdeal.main_arg5) = m ((c.tc : Thread Cert.ProbIdeal.nD Cert.ProbIdeal.τ).loc Cert.ProbIdeal.main_arg5)
          ∧ r.2.mem ((c.tc : Thread Cert.ProbIdeal.nD Cert.ProbIdeal.τ).loc Cert.ProbIdeal.main_arg6) = m ((c.tc : Thread Cert.ProbIdeal.nD Cert.ProbIdeal.τ).loc Cert.ProbIdeal.main_arg6)
          ∧ r.2.mem ((c.tc : Thread Cert.ProbIdeal.nD Cert.ProbIdeal.τ).loc Cert.ProbIdeal.main_arg7) = m ((c.tc : Thread Cert.ProbIdeal.nD Cert.ProbIdeal.τ).loc Cert.ProbIdeal.main_arg7)
          ∧ r.2.mem ((c.tc : Thread Cert.ProbIdeal.nD Cert.ProbIdeal.τ).loc Cert.ProbIdeal.main_arg8) = m ((c.tc : Thread Cert.ProbIdeal.nD Cert.ProbIdeal.τ).loc Cert.ProbIdeal.main_arg8)
          ∧ r.2.mem ((c.tc : Thread Cert.ProbIdeal.nD Cert.ProbIdeal.τ).loc Cert.ProbIdeal.main_arg9) = m ((c.tc : Thread Cert.ProbIdeal.nD Cert.ProbIdeal.τ).loc Cert.ProbIdeal.main_arg9)
          ∧ r.2.mem ((c.tc : Thread Cert.ProbIdeal.nD Cert.ProbIdeal.τ).loc Cert.ProbIdeal.main_arg10) = m ((c.tc : Thread Cert.ProbIdeal.nD Cert.ProbIdeal.τ).loc Cert.ProbIdeal.main_arg10)
          ∧ r.2.mem ((c.tc : Thread Cert.ProbIdeal.nD Cert.ProbIdeal.τ).loc Cert.ProbIdeal.main_arg11) = m ((c.tc : Thread Cert.ProbIdeal.nD Cert.ProbIdeal.τ).loc Cert.ProbIdeal.main_arg11)
          ∧ r.2.mem ((c.tc : Thread Cert.ProbIdeal.nD Cert.ProbIdeal.τ).loc Cert.ProbIdeal.main_arg12) = m ((c.tc : Thread Cert.ProbIdeal.nD Cert.ProbIdeal.τ).loc Cert.ProbIdeal.main_arg12))
      ∧ θ_run (Cert.ProbReferenceIdeal.defs (F := Ideal)) (onTc (τ := Cert.ProbReferenceIdeal.τ) (Cert.ProbReferenceIdeal.main (F := Ideal))) ⟨m', fun _ => 0, g'⟩ (fun r => ∀ c : Dev Cert.ProbReferenceIdeal.nD,
          r.2.mem ((c.tc : Thread Cert.ProbReferenceIdeal.nD Cert.ProbReferenceIdeal.τ).loc Cert.ProbReferenceIdeal.main_v47) = v0 c
          ∧ r.2.mem ((c.tc : Thread Cert.ProbReferenceIdeal.nD Cert.ProbReferenceIdeal.τ).loc Cert.ProbReferenceIdeal.main_arg0) = m' ((c.tc : Thread Cert.ProbReferenceIdeal.nD Cert.ProbReferenceIdeal.τ).loc Cert.ProbReferenceIdeal.main_arg0)
          ∧ r.2.mem ((c.tc : Thread Cert.ProbReferenceIdeal.nD Cert.ProbReferenceIdeal.τ).loc Cert.ProbReferenceIdeal.main_arg1) = m' ((c.tc : Thread Cert.ProbReferenceIdeal.nD Cert.ProbReferenceIdeal.τ).loc Cert.ProbReferenceIdeal.main_arg1)
          ∧ r.2.mem ((c.tc : Thread Cert.ProbReferenceIdeal.nD Cert.ProbReferenceIdeal.τ).loc Cert.ProbReferenceIdeal.main_arg2) = m' ((c.tc : Thread Cert.ProbReferenceIdeal.nD Cert.ProbReferenceIdeal.τ).loc Cert.ProbReferenceIdeal.main_arg2)
          ∧ r.2.mem ((c.tc : Thread Cert.ProbReferenceIdeal.nD Cert.ProbReferenceIdeal.τ).loc Cert.ProbReferenceIdeal.main_arg3) = m' ((c.tc : Thread Cert.ProbReferenceIdeal.nD Cert.ProbReferenceIdeal.τ).loc Cert.ProbReferenceIdeal.main_arg3)
          ∧ r.2.mem ((c.tc : Thread Cert.ProbReferenceIdeal.nD Cert.ProbReferenceIdeal.τ).loc Cert.ProbReferenceIdeal.main_arg4) = m' ((c.tc : Thread Cert.ProbReferenceIdeal.nD Cert.ProbReferenceIdeal.τ).loc Cert.ProbReferenceIdeal.main_arg4)
          ∧ r.2.mem ((c.tc : Thread Cert.ProbReferenceIdeal.nD Cert.ProbReferenceIdeal.τ).loc Cert.ProbReferenceIdeal.main_arg5) = m' ((c.tc : Thread Cert.ProbReferenceIdeal.nD Cert.ProbReferenceIdeal.τ).loc Cert.ProbReferenceIdeal.main_arg5)
          ∧ r.2.mem ((c.tc : Thread Cert.ProbReferenceIdeal.nD Cert.ProbReferenceIdeal.τ).loc Cert.ProbReferenceIdeal.main_arg6) = m' ((c.tc : Thread Cert.ProbReferenceIdeal.nD Cert.ProbReferenceIdeal.τ).loc Cert.ProbReferenceIdeal.main_arg6)
          ∧ r.2.mem ((c.tc : Thread Cert.ProbReferenceIdeal.nD Cert.ProbReferenceIdeal.τ).loc Cert.ProbReferenceIdeal.main_arg7) = m' ((c.tc : Thread Cert.ProbReferenceIdeal.nD Cert.ProbReferenceIdeal.τ).loc Cert.ProbReferenceIdeal.main_arg7)
          ∧ r.2.mem ((c.tc : Thread Cert.ProbReferenceIdeal.nD Cert.ProbReferenceIdeal.τ).loc Cert.ProbReferenceIdeal.main_arg8) = m' ((c.tc : Thread Cert.ProbReferenceIdeal.nD Cert.ProbReferenceIdeal.τ).loc Cert.ProbReferenceIdeal.main_arg8)
          ∧ r.2.mem ((c.tc : Thread Cert.ProbReferenceIdeal.nD Cert.ProbReferenceIdeal.τ).loc Cert.ProbReferenceIdeal.main_arg9) = m' ((c.tc : Thread Cert.ProbReferenceIdeal.nD Cert.ProbReferenceIdeal.τ).loc Cert.ProbReferenceIdeal.main_arg9)
          ∧ r.2.mem ((c.tc : Thread Cert.ProbReferenceIdeal.nD Cert.ProbReferenceIdeal.τ).loc Cert.ProbReferenceIdeal.main_arg10) = m' ((c.tc : Thread Cert.ProbReferenceIdeal.nD Cert.ProbReferenceIdeal.τ).loc Cert.ProbReferenceIdeal.main_arg10)
          ∧ r.2.mem ((c.tc : Thread Cert.ProbReferenceIdeal.nD Cert.ProbReferenceIdeal.τ).loc Cert.ProbReferenceIdeal.main_arg11) = m' ((c.tc : Thread Cert.ProbReferenceIdeal.nD Cert.ProbReferenceIdeal.τ).loc Cert.ProbReferenceIdeal.main_arg11)
          ∧ r.2.mem ((c.tc : Thread Cert.ProbReferenceIdeal.nD Cert.ProbReferenceIdeal.τ).loc Cert.ProbReferenceIdeal.main_arg12) = m' ((c.tc : Thread Cert.ProbReferenceIdeal.nD Cert.ProbReferenceIdeal.τ).loc Cert.ProbReferenceIdeal.main_arg12))

def Claim : Prop :=
  ∃ (hKernel : Cert.Kernel.Facts) (hKernelIdeal : Cert.KernelIdeal.Facts) (hReferenceIdeal : Cert.ReferenceIdeal.Facts) (hProb : Cert.Prob.Facts) (hProbIdeal : Cert.ProbIdeal.Facts) (hProbReferenceIdeal : Cert.ProbReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Prob (hProb := hProb)
    ∧ quiescent_ProbIdeal (hProbIdeal := hProbIdeal)
    ∧ quiescent_ProbReferenceIdeal (hProbReferenceIdeal := hProbReferenceIdeal)
    ∧ preserves_Kernel_KernelIdeal
    ∧ algebraic_KernelIdeal_ReferenceIdeal (hKernelIdeal := hKernelIdeal) (hReferenceIdeal := hReferenceIdeal)
    ∧ preserves_Prob_ProbIdeal
    ∧ algebraic_ProbIdeal_ProbReferenceIdeal (hProbIdeal := hProbIdeal) (hProbReferenceIdeal := hProbReferenceIdeal)
-- ==== Kernel.lean ====
abbrev S131072x128 : Shape := ⟨2, ![131072, 128]⟩
abbrev S128x128 : Shape := ⟨2, ![128, 128]⟩
abbrev S_ : Shape := ⟨0, ![]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S8x16 : Shape := ⟨2, ![8, 16]⟩
abbrev S4x16 : Shape := ⟨2, ![4, 16]⟩
abbrev S2x16 : Shape := ⟨2, ![2, 16]⟩
abbrev S8 : Shape := ⟨1, ![8]⟩
abbrev S4 : Shape := ⟨1, ![4]⟩
abbrev S2 : Shape := ⟨1, ![2]⟩
abbrev S1 : Shape := ⟨1, ![1]⟩

abbrev nBuf : Table → Nat
  | .hbm => 2
  | .local .scVector .vmem => 4
  | _ => 0

abbrev bufTy : (tb : Table) → Fin (nBuf tb) → BufTy
  | .hbm, ⟨0, _⟩ => ⟨S131072x128, .f32⟩
  | .hbm, ⟨1, _⟩ => ⟨S131072x128, .f32⟩
  | .local .scVector .vmem, ⟨0, _⟩ => ⟨S128x128, .f32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | _, _ => ⟨S131072x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32 : BitVec 32 := 0#32
  ![v2.toNat, 0]
def k0_off2 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v7 : BitVec 32 := Scalar.addi v2 c128_i32
  let c0_i32_3 : BitVec 32 := 0#32
  ![v7.toNat, 0]
@[reducible] def k0_t1_loop : Scf.Loop 32 :=
  let c0_i32_5 : BitVec 32 := 0#32
  let c128_i32_6 : BitVec 32 := 128#32
  let v10 : BitVec 32 := Scalar.addi c0_i32_5 c128_i32_6
  let c1_i32 : BitVec 32 := 1#32
  ⟨c0_i32_5, v10, c1_i32⟩
def k0_off3 (k0_t1 : Fin k0_t1_loop.trips) : Fin 2 → Nat :=
  let c0_i32_415 : BitVec 32 := 0#32
  let c0_i32_5 : BitVec 32 := 0#32
  let c1_i32 : BitVec 32 := 1#32
  let arg12 : BitVec 32 := Scf.iv c0_i32_5 c1_i32 k0_t1
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off4 (k0_t1 : Fin k0_t1_loop.trips) : Fin 2 → Nat :=
  let c0_i32_415 : BitVec 32 := 0#32
  let c0_i32_5 : BitVec 32 := 0#32
  let c1_i32 : BitVec 32 := 1#32
  let arg12 : BitVec 32 := Scf.iv c0_i32_5 c1_i32 k0_t1
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off5 (k0_t1 : Fin k0_t1_loop.trips) : Fin 2 → Nat :=
  let c0_i32_415 : BitVec 32 := 0#32
  let c0_i32_5 : BitVec 32 := 0#32
  let c1_i32 : BitVec 32 := 1#32
  let arg12 : BitVec 32 := Scf.iv c0_i32_5 c1_i32 k0_t1
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off6 (k0_t1 : Fin k0_t1_loop.trips) : Fin 2 → Nat :=
  let c0_i32_415 : BitVec 32 := 0#32
  let c0_i32_5 : BitVec 32 := 0#32
  let c1_i32 : BitVec 32 := 1#32
  let arg12 : BitVec 32 := Scf.iv c0_i32_5 c1_i32 k0_t1
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off7 (k0_t1 : Fin k0_t1_loop.trips) : Fin 2 → Nat :=
  let c0_i32_415 : BitVec 32 := 0#32
  let c0_i32_5 : BitVec 32 := 0#32
  let c1_i32 : BitVec 32 := 1#32
  let arg12 : BitVec 32 := Scf.iv c0_i32_5 c1_i32 k0_t1
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off8 (k0_t1 : Fin k0_t1_loop.trips) : Fin 2 → Nat :=
  let c0_i32_415 : BitVec 32 := 0#32
  let c0_i32_5 : BitVec 32 := 0#32
  let c1_i32 : BitVec 32 := 1#32
  let arg12 : BitVec 32 := Scf.iv c0_i32_5 c1_i32 k0_t1
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off9 (k0_t1 : Fin k0_t1_loop.trips) : Fin 2 → Nat :=
  let c0_i32_415 : BitVec 32 := 0#32
  let c0_i32_5 : BitVec 32 := 0#32
  let c1_i32 : BitVec 32 := 1#32
  let arg12 : BitVec 32 := Scf.iv c0_i32_5 c1_i32 k0_t1
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off10 (k0_t1 : Fin k0_t1_loop.trips) : Fin 2 → Nat :=
  let c0_i32_415 : BitVec 32 := 0#32
  let c0_i32_5 : BitVec 32 := 0#32
  let c1_i32 : BitVec 32 := 1#32
  let arg12 : BitVec 32 := Scf.iv c0_i32_5 c1_i32 k0_t1
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t2_loop : Scf.Loop 32 :=
  let c0_i32_15 : BitVec 32 := 0#32
  let c128_i32_16 : BitVec 32 := 128#32
  let v19 : BitVec 32 := Scalar.addi c0_i32_15 c128_i32_16
  let c1_i32_17 : BitVec 32 := 1#32
  ⟨c0_i32_15, v19, c1_i32_17⟩
def k0_off11 (k0_t2 : Fin k0_t2_loop.trips) : Fin 2 → Nat :=
  let c0_i32_415 : BitVec 32 := 0#32
  let c0_i32_15 : BitVec 32 := 0#32
  let c1_i32_17 : BitVec 32 := 1#32
  let arg12 : BitVec 32 := Scf.iv c0_i32_15 c1_i32_17 k0_t2
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off12 (k0_t2 : Fin k0_t2_loop.trips) : Fin 2 → Nat :=
  let c0_i32_415 : BitVec 32 := 0#32
  let c0_i32_15 : BitVec 32 := 0#32
  let c1_i32_17 : BitVec 32 := 1#32
  let arg12 : BitVec 32 := Scf.iv c0_i32_15 c1_i32_17 k0_t2
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off13 (k0_t2 : Fin k0_t2_loop.trips) : Fin 2 → Nat :=
  let c0_i32_415 : BitVec 32 := 0#32
  let c0_i32_15 : BitVec 32 := 0#32
  let c1_i32_17 : BitVec 32 := 1#32
  let arg12 : BitVec 32 := Scf.iv c0_i32_15 c1_i32_17 k0_t2
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off14 (k0_t2 : Fin k0_t2_loop.trips) : Fin 2 → Nat :=
  let c0_i32_415 : BitVec 32 := 0#32
  let c0_i32_15 : BitVec 32 := 0#32
  let c1_i32_17 : BitVec 32 := 1#32
  let arg12 : BitVec 32 := Scf.iv c0_i32_15 c1_i32_17 k0_t2
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off15 (k0_t2 : Fin k0_t2_loop.trips) : Fin 2 → Nat :=
  let c0_i32_415 : BitVec 32 := 0#32
  let c0_i32_15 : BitVec 32 := 0#32
  let c1_i32_17 : BitVec 32 := 1#32
  let arg12 : BitVec 32 := Scf.iv c0_i32_15 c1_i32_17 k0_t2
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off16 (k0_t2 : Fin k0_t2_loop.trips) : Fin 2 → Nat :=
  let c0_i32_415 : BitVec 32 := 0#32
  let c0_i32_15 : BitVec 32 := 0#32
  let c1_i32_17 : BitVec 32 := 1#32
  let arg12 : BitVec 32 := Scf.iv c0_i32_15 c1_i32_17 k0_t2
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off17 (k0_t2 : Fin k0_t2_loop.trips) : Fin 2 → Nat :=
  let c0_i32_415 : BitVec 32 := 0#32
  let c0_i32_15 : BitVec 32 := 0#32
  let c1_i32_17 : BitVec 32 := 1#32
  let arg12 : BitVec 32 := Scf.iv c0_i32_15 c1_i32_17 k0_t2
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off18 (k0_t2 : Fin k0_t2_loop.trips) : Fin 2 → Nat :=
  let c0_i32_415 : BitVec 32 := 0#32
  let c0_i32_15 : BitVec 32 := 0#32
  let c1_i32_17 : BitVec 32 := 1#32
  let arg12 : BitVec 32 := Scf.iv c0_i32_15 c1_i32_17 k0_t2
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t3_loop : Scf.Loop 32 :=
  let c0_i32_28 : BitVec 32 := 0#32
  let c128_i32_29 : BitVec 32 := 128#32
  let v30 : BitVec 32 := Scalar.addi c0_i32_28 c128_i32_29
  let c1_i32_30 : BitVec 32 := 1#32
  ⟨c0_i32_28, v30, c1_i32_30⟩
def k0_off19 (k0_t3 : Fin k0_t3_loop.trips) : Fin 2 → Nat :=
  let c0_i32_415 : BitVec 32 := 0#32
  let c0_i32_28 : BitVec 32 := 0#32
  let c1_i32_30 : BitVec 32 := 1#32
  let arg12 : BitVec 32 := Scf.iv c0_i32_28 c1_i32_30 k0_t3
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off20 (k0_t3 : Fin k0_t3_loop.trips) : Fin 2 → Nat :=
  let c0_i32_415 : BitVec 32 := 0#32
  let c0_i32_28 : BitVec 32 := 0#32
  let c1_i32_30 : BitVec 32 := 1#32
  let arg12 : BitVec 32 := Scf.iv c0_i32_28 c1_i32_30 k0_t3
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off21 (k0_t3 : Fin k0_t3_loop.trips) : Fin 2 → Nat :=
  let c0_i32_415 : BitVec 32 := 0#32
  let c0_i32_28 : BitVec 32 := 0#32
  let c1_i32_30 : BitVec 32 := 1#32
  let arg12 : BitVec 32 := Scf.iv c0_i32_28 c1_i32_30 k0_t3
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off22 (k0_t3 : Fin k0_t3_loop.trips) : Fin 2 → Nat :=
  let c0_i32_415 : BitVec 32 := 0#32
  let c0_i32_28 : BitVec 32 := 0#32
  let c1_i32_30 : BitVec 32 := 1#32
  let arg12 : BitVec 32 := Scf.iv c0_i32_28 c1_i32_30 k0_t3
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off23 (k0_t3 : Fin k0_t3_loop.trips) : Fin 2 → Nat :=
  let c0_i32_415 : BitVec 32 := 0#32
  let c0_i32_28 : BitVec 32 := 0#32
  let c1_i32_30 : BitVec 32 := 1#32
  let arg12 : BitVec 32 := Scf.iv c0_i32_28 c1_i32_30 k0_t3
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off24 (k0_t3 : Fin k0_t3_loop.trips) : Fin 2 → Nat :=
  let c0_i32_415 : BitVec 32 := 0#32
  let c0_i32_28 : BitVec 32 := 0#32
  let c1_i32_30 : BitVec 32 := 1#32
  let arg12 : BitVec 32 := Scf.iv c0_i32_28 c1_i32_30 k0_t3
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off25 (k0_t3 : Fin k0_t3_loop.trips) : Fin 2 → Nat :=
  let c0_i32_415 : BitVec 32 := 0#32
  let c0_i32_28 : BitVec 32 := 0#32
  let c1_i32_30 : BitVec 32 := 1#32
  let arg12 : BitVec 32 := Scf.iv c0_i32_28 c1_i32_30 k0_t3
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off26 (k0_t3 : Fin k0_t3_loop.trips) : Fin 2 → Nat :=
  let c0_i32_415 : BitVec 32 := 0#32
  let c0_i32_28 : BitVec 32 := 0#32
  let c1_i32_30 : BitVec 32 := 1#32
  let arg12 : BitVec 32 := Scf.iv c0_i32_28 c1_i32_30 k0_t3
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t4_loop : Scf.Loop 32 :=
  let c0_i32_41 : BitVec 32 := 0#32
  let c128_i32_42 : BitVec 32 := 128#32
  let v41 : BitVec 32 := Scalar.addi c0_i32_41 c128_i32_42
  let c1_i32_43 : BitVec 32 := 1#32
  ⟨c0_i32_41, v41, c1_i32_43⟩
def k0_off27 (k0_t4 : Fin k0_t4_loop.trips) : Fin 2 → Nat :=
  let c0_i32_415 : BitVec 32 := 0#32
  let c0_i32_41 : BitVec 32 := 0#32
  let c1_i32_43 : BitVec 32 := 1#32
  let arg12 : BitVec 32 := Scf.iv c0_i32_41 c1_i32_43 k0_t4
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off28 (k0_t4 : Fin k0_t4_loop.trips) : Fin 2 → Nat :=
  let c0_i32_415 : BitVec 32 := 0#32
  let c0_i32_41 : BitVec 32 := 0#32
  let c1_i32_43 : BitVec 32 := 1#32
  let arg12 : BitVec 32 := Scf.iv c0_i32_41 c1_i32_43 k0_t4
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off29 (k0_t4 : Fin k0_t4_loop.trips) : Fin 2 → Nat :=
  let c0_i32_415 : BitVec 32 := 0#32
  let c0_i32_41 : BitVec 32 := 0#32
  let c1_i32_43 : BitVec 32 := 1#32
  let arg12 : BitVec 32 := Scf.iv c0_i32_41 c1_i32_43 k0_t4
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off30 (k0_t4 : Fin k0_t4_loop.trips) : Fin 2 → Nat :=
  let c0_i32_415 : BitVec 32 := 0#32
  let c0_i32_41 : BitVec 32 := 0#32
  let c1_i32_43 : BitVec 32 := 1#32
  let arg12 : BitVec 32 := Scf.iv c0_i32_41 c1_i32_43 k0_t4
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off31 (k0_t4 : Fin k0_t4_loop.trips) : Fin 2 → Nat :=
  let c0_i32_415 : BitVec 32 := 0#32
  let c0_i32_41 : BitVec 32 := 0#32
  let c1_i32_43 : BitVec 32 := 1#32
  let arg12 : BitVec 32 := Scf.iv c0_i32_41 c1_i32_43 k0_t4
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off32 (k0_t4 : Fin k0_t4_loop.trips) : Fin 2 → Nat :=
  let c0_i32_415 : BitVec 32 := 0#32
  let c0_i32_41 : BitVec 32 := 0#32
  let c1_i32_43 : BitVec 32 := 1#32
  let arg12 : BitVec 32 := Scf.iv c0_i32_41 c1_i32_43 k0_t4
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off33 (k0_t4 : Fin k0_t4_loop.trips) : Fin 2 → Nat :=
  let c0_i32_415 : BitVec 32 := 0#32
  let c0_i32_41 : BitVec 32 := 0#32
  let c1_i32_43 : BitVec 32 := 1#32
  let arg12 : BitVec 32 := Scf.iv c0_i32_41 c1_i32_43 k0_t4
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off34 (k0_t4 : Fin k0_t4_loop.trips) : Fin 2 → Nat :=
  let c0_i32_415 : BitVec 32 := 0#32
  let c0_i32_41 : BitVec 32 := 0#32
  let c1_i32_43 : BitVec 32 := 1#32
  let arg12 : BitVec 32 := Scf.iv c0_i32_41 c1_i32_43 k0_t4
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t5_loop : Scf.Loop 32 :=
  let c0_i32_54 : BitVec 32 := 0#32
  let c128_i32_55 : BitVec 32 := 128#32
  let v52 : BitVec 32 := Scalar.addi c0_i32_54 c128_i32_55
  let c1_i32_56 : BitVec 32 := 1#32
  ⟨c0_i32_54, v52, c1_i32_56⟩
def k0_off35 (k0_t5 : Fin k0_t5_loop.trips) : Fin 2 → Nat :=
  let c0_i32_415 : BitVec 32 := 0#32
  let c0_i32_54 : BitVec 32 := 0#32
  let c1_i32_56 : BitVec 32 := 1#32
  let arg12 : BitVec 32 := Scf.iv c0_i32_54 c1_i32_56 k0_t5
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off36 (k0_t5 : Fin k0_t5_loop.trips) : Fin 2 → Nat :=
  let c0_i32_415 : BitVec 32 := 0#32
  let c0_i32_54 : BitVec 32 := 0#32
  let c1_i32_56 : BitVec 32 := 1#32
  let arg12 : BitVec 32 := Scf.iv c0_i32_54 c1_i32_56 k0_t5
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off37 (k0_t5 : Fin k0_t5_loop.trips) : Fin 2 → Nat :=
  let c0_i32_415 : BitVec 32 := 0#32
  let c0_i32_54 : BitVec 32 := 0#32
  let c1_i32_56 : BitVec 32 := 1#32
  let arg12 : BitVec 32 := Scf.iv c0_i32_54 c1_i32_56 k0_t5
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off38 (k0_t5 : Fin k0_t5_loop.trips) : Fin 2 → Nat :=
  let c0_i32_415 : BitVec 32 := 0#32
  let c0_i32_54 : BitVec 32 := 0#32
  let c1_i32_56 : BitVec 32 := 1#32
  let arg12 : BitVec 32 := Scf.iv c0_i32_54 c1_i32_56 k0_t5
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off39 (k0_t5 : Fin k0_t5_loop.trips) : Fin 2 → Nat :=
  let c0_i32_415 : BitVec 32 := 0#32
  let c0_i32_54 : BitVec 32 := 0#32
  let c1_i32_56 : BitVec 32 := 1#32
  let arg12 : BitVec 32 := Scf.iv c0_i32_54 c1_i32_56 k0_t5
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off40 (k0_t5 : Fin k0_t5_loop.trips) : Fin 2 → Nat :=
  let c0_i32_415 : BitVec 32 := 0#32
  let c0_i32_54 : BitVec 32 := 0#32
  let c1_i32_56 : BitVec 32 := 1#32
  let arg12 : BitVec 32 := Scf.iv c0_i32_54 c1_i32_56 k0_t5
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off41 (k0_t5 : Fin k0_t5_loop.trips) : Fin 2 → Nat :=
  let c0_i32_415 : BitVec 32 := 0#32
  let c0_i32_54 : BitVec 32 := 0#32
  let c1_i32_56 : BitVec 32 := 1#32
  let arg12 : BitVec 32 := Scf.iv c0_i32_54 c1_i32_56 k0_t5
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off42 (k0_t5 : Fin k0_t5_loop.trips) : Fin 2 → Nat :=
  let c0_i32_415 : BitVec 32 := 0#32
  let c0_i32_54 : BitVec 32 := 0#32
  let c1_i32_56 : BitVec 32 := 1#32
  let arg12 : BitVec 32 := Scf.iv c0_i32_54 c1_i32_56 k0_t5
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t6_loop : Scf.Loop 32 :=
  let c0_i32_67 : BitVec 32 := 0#32
  let c128_i32_68 : BitVec 32 := 128#32
  let v63 : BitVec 32 := Scalar.addi c0_i32_67 c128_i32_68
  let c1_i32_69 : BitVec 32 := 1#32
  ⟨c0_i32_67, v63, c1_i32_69⟩
def k0_off43 (k0_t6 : Fin k0_t6_loop.trips) : Fin 2 → Nat :=
  let c0_i32_415 : BitVec 32 := 0#32
  let c0_i32_67 : BitVec 32 := 0#32
  let c1_i32_69 : BitVec 32 := 1#32
  let arg12 : BitVec 32 := Scf.iv c0_i32_67 c1_i32_69 k0_t6
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off44 (k0_t6 : Fin k0_t6_loop.trips) : Fin 2 → Nat :=
  let c0_i32_415 : BitVec 32 := 0#32
  let c0_i32_67 : BitVec 32 := 0#32
  let c1_i32_69 : BitVec 32 := 1#32
  let arg12 : BitVec 32 := Scf.iv c0_i32_67 c1_i32_69 k0_t6
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off45 (k0_t6 : Fin k0_t6_loop.trips) : Fin 2 → Nat :=
  let c0_i32_415 : BitVec 32 := 0#32
  let c0_i32_67 : BitVec 32 := 0#32
  let c1_i32_69 : BitVec 32 := 1#32
  let arg12 : BitVec 32 := Scf.iv c0_i32_67 c1_i32_69 k0_t6
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off46 (k0_t6 : Fin k0_t6_loop.trips) : Fin 2 → Nat :=
  let c0_i32_415 : BitVec 32 := 0#32
  let c0_i32_67 : BitVec 32 := 0#32
  let c1_i32_69 : BitVec 32 := 1#32
  let arg12 : BitVec 32 := Scf.iv c0_i32_67 c1_i32_69 k0_t6
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off47 (k0_t6 : Fin k0_t6_loop.trips) : Fin 2 → Nat :=
  let c0_i32_415 : BitVec 32 := 0#32
  let c0_i32_67 : BitVec 32 := 0#32
  let c1_i32_69 : BitVec 32 := 1#32
  let arg12 : BitVec 32 := Scf.iv c0_i32_67 c1_i32_69 k0_t6
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off48 (k0_t6 : Fin k0_t6_loop.trips) : Fin 2 → Nat :=
  let c0_i32_415 : BitVec 32 := 0#32
  let c0_i32_67 : BitVec 32 := 0#32
  let c1_i32_69 : BitVec 32 := 1#32
  let arg12 : BitVec 32 := Scf.iv c0_i32_67 c1_i32_69 k0_t6
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off49 (k0_t6 : Fin k0_t6_loop.trips) : Fin 2 → Nat :=
  let c0_i32_415 : BitVec 32 := 0#32
  let c0_i32_67 : BitVec 32 := 0#32
  let c1_i32_69 : BitVec 32 := 1#32
  let arg12 : BitVec 32 := Scf.iv c0_i32_67 c1_i32_69 k0_t6
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off50 (k0_t6 : Fin k0_t6_loop.trips) : Fin 2 → Nat :=
  let c0_i32_415 : BitVec 32 := 0#32
  let c0_i32_67 : BitVec 32 := 0#32
  let c1_i32_69 : BitVec 32 := 1#32
  let arg12 : BitVec 32 := Scf.iv c0_i32_67 c1_i32_69 k0_t6
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t7_loop : Scf.Loop 32 :=
  let c0_i32_80 : BitVec 32 := 0#32
  let c128_i32_81 : BitVec 32 := 128#32
  let v74 : BitVec 32 := Scalar.addi c0_i32_80 c128_i32_81
  let c1_i32_82 : BitVec 32 := 1#32
  ⟨c0_i32_80, v74, c1_i32_82⟩
def k0_off51 (k0_t7 : Fin k0_t7_loop.trips) : Fin 2 → Nat :=
  let c0_i32_415 : BitVec 32 := 0#32
  let c0_i32_80 : BitVec 32 := 0#32
  let c1_i32_82 : BitVec 32 := 1#32
  let arg12 : BitVec 32 := Scf.iv c0_i32_80 c1_i32_82 k0_t7
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off52 (k0_t7 : Fin k0_t7_loop.trips) : Fin 2 → Nat :=
  let c0_i32_415 : BitVec 32 := 0#32
  let c0_i32_80 : BitVec 32 := 0#32
  let c1_i32_82 : BitVec 32 := 1#32
  let arg12 : BitVec 32 := Scf.iv c0_i32_80 c1_i32_82 k0_t7
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off53 (k0_t7 : Fin k0_t7_loop.trips) : Fin 2 → Nat :=
  let c0_i32_415 : BitVec 32 := 0#32
  let c0_i32_80 : BitVec 32 := 0#32
  let c1_i32_82 : BitVec 32 := 1#32
  let arg12 : BitVec 32 := Scf.iv c0_i32_80 c1_i32_82 k0_t7
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off54 (k0_t7 : Fin k0_t7_loop.trips) : Fin 2 → Nat :=
  let c0_i32_415 : BitVec 32 := 0#32
  let c0_i32_80 : BitVec 32 := 0#32
  let c1_i32_82 : BitVec 32 := 1#32
  let arg12 : BitVec 32 := Scf.iv c0_i32_80 c1_i32_82 k0_t7
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off55 (k0_t7 : Fin k0_t7_loop.trips) : Fin 2 → Nat :=
  let c0_i32_415 : BitVec 32 := 0#32
  let c0_i32_80 : BitVec 32 := 0#32
  let c1_i32_82 : BitVec 32 := 1#32
  let arg12 : BitVec 32 := Scf.iv c0_i32_80 c1_i32_82 k0_t7
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off56 (k0_t7 : Fin k0_t7_loop.trips) : Fin 2 → Nat :=
  let c0_i32_415 : BitVec 32 := 0#32
  let c0_i32_80 : BitVec 32 := 0#32
  let c1_i32_82 : BitVec 32 := 1#32
  let arg12 : BitVec 32 := Scf.iv c0_i32_80 c1_i32_82 k0_t7
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off57 (k0_t7 : Fin k0_t7_loop.trips) : Fin 2 → Nat :=
  let c0_i32_415 : BitVec 32 := 0#32
  let c0_i32_80 : BitVec 32 := 0#32
  let c1_i32_82 : BitVec 32 := 1#32
  let arg12 : BitVec 32 := Scf.iv c0_i32_80 c1_i32_82 k0_t7
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off58 (k0_t7 : Fin k0_t7_loop.trips) : Fin 2 → Nat :=
  let c0_i32_415 : BitVec 32 := 0#32
  let c0_i32_80 : BitVec 32 := 0#32
  let c1_i32_82 : BitVec 32 := 1#32
  let arg12 : BitVec 32 := Scf.iv c0_i32_80 c1_i32_82 k0_t7
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t8_loop : Scf.Loop 32 :=
  let c0_i32_93 : BitVec 32 := 0#32
  let c128_i32_94 : BitVec 32 := 128#32
  let v85 : BitVec 32 := Scalar.addi c0_i32_93 c128_i32_94
  let c1_i32_95 : BitVec 32 := 1#32
  ⟨c0_i32_93, v85, c1_i32_95⟩
def k0_off59 (k0_t8 : Fin k0_t8_loop.trips) : Fin 2 → Nat :=
  let c0_i32_415 : BitVec 32 := 0#32
  let c0_i32_93 : BitVec 32 := 0#32
  let c1_i32_95 : BitVec 32 := 1#32
  let arg12 : BitVec 32 := Scf.iv c0_i32_93 c1_i32_95 k0_t8
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off60 (k0_t8 : Fin k0_t8_loop.trips) : Fin 2 → Nat :=
  let c0_i32_415 : BitVec 32 := 0#32
  let c0_i32_93 : BitVec 32 := 0#32
  let c1_i32_95 : BitVec 32 := 1#32
  let arg12 : BitVec 32 := Scf.iv c0_i32_93 c1_i32_95 k0_t8
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off61 (k0_t8 : Fin k0_t8_loop.trips) : Fin 2 → Nat :=
  let c0_i32_415 : BitVec 32 := 0#32
  let c0_i32_93 : BitVec 32 := 0#32
  let c1_i32_95 : BitVec 32 := 1#32
  let arg12 : BitVec 32 := Scf.iv c0_i32_93 c1_i32_95 k0_t8
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off62 (k0_t8 : Fin k0_t8_loop.trips) : Fin 2 → Nat :=
  let c0_i32_415 : BitVec 32 := 0#32
  let c0_i32_93 : BitVec 32 := 0#32
  let c1_i32_95 : BitVec 32 := 1#32
  let arg12 : BitVec 32 := Scf.iv c0_i32_93 c1_i32_95 k0_t8
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off63 (k0_t8 : Fin k0_t8_loop.trips) : Fin 2 → Nat :=
  let c0_i32_415 : BitVec 32 := 0#32
  let c0_i32_93 : BitVec 32 := 0#32
  let c1_i32_95 : BitVec 32 := 1#32
  let arg12 : BitVec 32 := Scf.iv c0_i32_93 c1_i32_95 k0_t8
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off64 (k0_t8 : Fin k0_t8_loop.trips) : Fin 2 → Nat :=
  let c0_i32_415 : BitVec 32 := 0#32
  let c0_i32_93 : BitVec 32 := 0#32
  let c1_i32_95 : BitVec 32 := 1#32
  let arg12 : BitVec 32 := Scf.iv c0_i32_93 c1_i32_95 k0_t8
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off65 (k0_t8 : Fin k0_t8_loop.trips) : Fin 2 → Nat :=
  let c0_i32_415 : BitVec 32 := 0#32
  let c0_i32_93 : BitVec 32 := 0#32
  let c1_i32_95 : BitVec 32 := 1#32
  let arg12 : BitVec 32 := Scf.iv c0_i32_93 c1_i32_95 k0_t8
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off66 (k0_t8 : Fin k0_t8_loop.trips) : Fin 2 → Nat :=
  let c0_i32_415 : BitVec 32 := 0#32
  let c0_i32_93 : BitVec 32 := 0#32
  let c1_i32_95 : BitVec 32 := 1#32
  let arg12 : BitVec 32 := Scf.iv c0_i32_93 c1_i32_95 k0_t8
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t9_loop : Scf.Loop 32 :=
  let c0_i32_106 : BitVec 32 := 0#32
  let c128_i32_107 : BitVec 32 := 128#32
  let v96 : BitVec 32 := Scalar.addi c0_i32_106 c128_i32_107
  let c1_i32_108 : BitVec 32 := 1#32
  ⟨c0_i32_106, v96, c1_i32_108⟩
def k0_off67 (k0_t9 : Fin k0_t9_loop.trips) : Fin 2 → Nat :=
  let c0_i32_415 : BitVec 32 := 0#32
  let c0_i32_106 : BitVec 32 := 0#32
  let c1_i32_108 : BitVec 32 := 1#32
  let arg12 : BitVec 32 := Scf.iv c0_i32_106 c1_i32_108 k0_t9
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off68 (k0_t9 : Fin k0_t9_loop.trips) : Fin 2 → Nat :=
  let c0_i32_415 : BitVec 32 := 0#32
  let c0_i32_106 : BitVec 32 := 0#32
  let c1_i32_108 : BitVec 32 := 1#32
  let arg12 : BitVec 32 := Scf.iv c0_i32_106 c1_i32_108 k0_t9
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off69 (k0_t9 : Fin k0_t9_loop.trips) : Fin 2 → Nat :=
  let c0_i32_415 : BitVec 32 := 0#32
  let c0_i32_106 : BitVec 32 := 0#32
  let c1_i32_108 : BitVec 32 := 1#32
  let arg12 : BitVec 32 := Scf.iv c0_i32_106 c1_i32_108 k0_t9
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off70 (k0_t9 : Fin k0_t9_loop.trips) : Fin 2 → Nat :=
  let c0_i32_415 : BitVec 32 := 0#32
  let c0_i32_106 : BitVec 32 := 0#32
  let c1_i32_108 : BitVec 32 := 1#32
  let arg12 : BitVec 32 := Scf.iv c0_i32_106 c1_i32_108 k0_t9
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off71 (k0_t9 : Fin k0_t9_loop.trips) : Fin 2 → Nat :=
  let c0_i32_415 : BitVec 32 := 0#32
  let c0_i32_106 : BitVec 32 := 0#32
  let c1_i32_108 : BitVec 32 := 1#32
  let arg12 : BitVec 32 := Scf.iv c0_i32_106 c1_i32_108 k0_t9
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off72 (k0_t9 : Fin k0_t9_loop.trips) : Fin 2 → Nat :=
  let c0_i32_415 : BitVec 32 := 0#32
  let c0_i32_106 : BitVec 32 := 0#32
  let c1_i32_108 : BitVec 32 := 1#32
  let arg12 : BitVec 32 := Scf.iv c0_i32_106 c1_i32_108 k0_t9
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off73 (k0_t9 : Fin k0_t9_loop.trips) : Fin 2 → Nat :=
  let c0_i32_415 : BitVec 32 := 0#32
  let c0_i32_106 : BitVec 32 := 0#32
  let c1_i32_108 : BitVec 32 := 1#32
  let arg12 : BitVec 32 := Scf.iv c0_i32_106 c1_i32_108 k0_t9
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off74 (k0_t9 : Fin k0_t9_loop.trips) : Fin 2 → Nat :=
  let c0_i32_415 : BitVec 32 := 0#32
  let c0_i32_106 : BitVec 32 := 0#32
  let c1_i32_108 : BitVec 32 := 1#32
  let arg12 : BitVec 32 := Scf.iv c0_i32_106 c1_i32_108 k0_t9
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t10_loop : Scf.Loop 32 :=
  let c0_i32_119 : BitVec 32 := 0#32
  let c128_i32_120 : BitVec 32 := 128#32
  let v107 : BitVec 32 := Scalar.addi c0_i32_119 c128_i32_120
  let c1_i32_121 : BitVec 32 := 1#32
  ⟨c0_i32_119, v107, c1_i32_121⟩
def k0_off75 (k0_t10 : Fin k0_t10_loop.trips) : Fin 2 → Nat :=
  let c0_i32_415 : BitVec 32 := 0#32
  let c0_i32_119 : BitVec 32 := 0#32
  let c1_i32_121 : BitVec 32 := 1#32
  let arg12 : BitVec 32 := Scf.iv c0_i32_119 c1_i32_121 k0_t10
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off76 (k0_t10 : Fin k0_t10_loop.trips) : Fin 2 → Nat :=
  let c0_i32_415 : BitVec 32 := 0#32
  let c0_i32_119 : BitVec 32 := 0#32
  let c1_i32_121 : BitVec 32 := 1#32
  let arg12 : BitVec 32 := Scf.iv c0_i32_119 c1_i32_121 k0_t10
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off77 (k0_t10 : Fin k0_t10_loop.trips) : Fin 2 → Nat :=
  let c0_i32_415 : BitVec 32 := 0#32
  let c0_i32_119 : BitVec 32 := 0#32
  let c1_i32_121 : BitVec 32 := 1#32
  let arg12 : BitVec 32 := Scf.iv c0_i32_119 c1_i32_121 k0_t10
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off78 (k0_t10 : Fin k0_t10_loop.trips) : Fin 2 → Nat :=
  let c0_i32_415 : BitVec 32 := 0#32
  let c0_i32_119 : BitVec 32 := 0#32
  let c1_i32_121 : BitVec 32 := 1#32
  let arg12 : BitVec 32 := Scf.iv c0_i32_119 c1_i32_121 k0_t10
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off79 (k0_t10 : Fin k0_t10_loop.trips) : Fin 2 → Nat :=
  let c0_i32_415 : BitVec 32 := 0#32
  let c0_i32_119 : BitVec 32 := 0#32
  let c1_i32_121 : BitVec 32 := 1#32
  let arg12 : BitVec 32 := Scf.iv c0_i32_119 c1_i32_121 k0_t10
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off80 (k0_t10 : Fin k0_t10_loop.trips) : Fin 2 → Nat :=
  let c0_i32_415 : BitVec 32 := 0#32
  let c0_i32_119 : BitVec 32 := 0#32
  let c1_i32_121 : BitVec 32 := 1#32
  let arg12 : BitVec 32 := Scf.iv c0_i32_119 c1_i32_121 k0_t10
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off81 (k0_t10 : Fin k0_t10_loop.trips) : Fin 2 → Nat :=
  let c0_i32_415 : BitVec 32 := 0#32
  let c0_i32_119 : BitVec 32 := 0#32
  let c1_i32_121 : BitVec 32 := 1#32
  let arg12 : BitVec 32 := Scf.iv c0_i32_119 c1_i32_121 k0_t10
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off82 (k0_t10 : Fin k0_t10_loop.trips) : Fin 2 → Nat :=
  let c0_i32_415 : BitVec 32 := 0#32
  let c0_i32_119 : BitVec 32 := 0#32
  let c1_i32_121 : BitVec 32 := 1#32
  let arg12 : BitVec 32 := Scf.iv c0_i32_119 c1_i32_121 k0_t10
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t11_loop : Scf.Loop 32 :=
  let c0_i32_132 : BitVec 32 := 0#32
  let c128_i32_133 : BitVec 32 := 128#32
  let v118 : BitVec 32 := Scalar.addi c0_i32_132 c128_i32_133
  let c1_i32_134 : BitVec 32 := 1#32
  ⟨c0_i32_132, v118, c1_i32_134⟩
def k0_off83 (k0_t11 : Fin k0_t11_loop.trips) : Fin 2 → Nat :=
  let c0_i32_415 : BitVec 32 := 0#32
  let c0_i32_132 : BitVec 32 := 0#32
  let c1_i32_134 : BitVec 32 := 1#32
  let arg12 : BitVec 32 := Scf.iv c0_i32_132 c1_i32_134 k0_t11
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off84 (k0_t11 : Fin k0_t11_loop.trips) : Fin 2 → Nat :=
  let c0_i32_415 : BitVec 32 := 0#32
  let c0_i32_132 : BitVec 32 := 0#32
  let c1_i32_134 : BitVec 32 := 1#32
  let arg12 : BitVec 32 := Scf.iv c0_i32_132 c1_i32_134 k0_t11
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off85 (k0_t11 : Fin k0_t11_loop.trips) : Fin 2 → Nat :=
  let c0_i32_415 : BitVec 32 := 0#32
  let c0_i32_132 : BitVec 32 := 0#32
  let c1_i32_134 : BitVec 32 := 1#32
  let arg12 : BitVec 32 := Scf.iv c0_i32_132 c1_i32_134 k0_t11
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off86 (k0_t11 : Fin k0_t11_loop.trips) : Fin 2 → Nat :=
  let c0_i32_415 : BitVec 32 := 0#32
  let c0_i32_132 : BitVec 32 := 0#32
  let c1_i32_134 : BitVec 32 := 1#32
  let arg12 : BitVec 32 := Scf.iv c0_i32_132 c1_i32_134 k0_t11
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off87 (k0_t11 : Fin k0_t11_loop.trips) : Fin 2 → Nat :=
  let c0_i32_415 : BitVec 32 := 0#32
  let c0_i32_132 : BitVec 32 := 0#32
  let c1_i32_134 : BitVec 32 := 1#32
  let arg12 : BitVec 32 := Scf.iv c0_i32_132 c1_i32_134 k0_t11
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off88 (k0_t11 : Fin k0_t11_loop.trips) : Fin 2 → Nat :=
  let c0_i32_415 : BitVec 32 := 0#32
  let c0_i32_132 : BitVec 32 := 0#32
  let c1_i32_134 : BitVec 32 := 1#32
  let arg12 : BitVec 32 := Scf.iv c0_i32_132 c1_i32_134 k0_t11
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off89 (k0_t11 : Fin k0_t11_loop.trips) : Fin 2 → Nat :=
  let c0_i32_415 : BitVec 32 := 0#32
  let c0_i32_132 : BitVec 32 := 0#32
  let c1_i32_134 : BitVec 32 := 1#32
  let arg12 : BitVec 32 := Scf.iv c0_i32_132 c1_i32_134 k0_t11
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off90 (k0_t11 : Fin k0_t11_loop.trips) : Fin 2 → Nat :=
  let c0_i32_415 : BitVec 32 := 0#32
  let c0_i32_132 : BitVec 32 := 0#32
  let c1_i32_134 : BitVec 32 := 1#32
  let arg12 : BitVec 32 := Scf.iv c0_i32_132 c1_i32_134 k0_t11
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t12_loop : Scf.Loop 32 :=
  let c0_i32_145 : BitVec 32 := 0#32
  let c128_i32_146 : BitVec 32 := 128#32
  let v129 : BitVec 32 := Scalar.addi c0_i32_145 c128_i32_146
  let c1_i32_147 : BitVec 32 := 1#32
  ⟨c0_i32_145, v129, c1_i32_147⟩
def k0_off91 (k0_t12 : Fin k0_t12_loop.trips) : Fin 2 → Nat :=
  let c0_i32_415 : BitVec 32 := 0#32
  let c0_i32_145 : BitVec 32 := 0#32
  let c1_i32_147 : BitVec 32 := 1#32
  let arg12 : BitVec 32 := Scf.iv c0_i32_145 c1_i32_147 k0_t12
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off92 (k0_t12 : Fin k0_t12_loop.trips) : Fin 2 → Nat :=
  let c0_i32_415 : BitVec 32 := 0#32
  let c0_i32_145 : BitVec 32 := 0#32
  let c1_i32_147 : BitVec 32 := 1#32
  let arg12 : BitVec 32 := Scf.iv c0_i32_145 c1_i32_147 k0_t12
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off93 (k0_t12 : Fin k0_t12_loop.trips) : Fin 2 → Nat :=
  let c0_i32_415 : BitVec 32 := 0#32
  let c0_i32_145 : BitVec 32 := 0#32
  let c1_i32_147 : BitVec 32 := 1#32
  let arg12 : BitVec 32 := Scf.iv c0_i32_145 c1_i32_147 k0_t12
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off94 (k0_t12 : Fin k0_t12_loop.trips) : Fin 2 → Nat :=
  let c0_i32_415 : BitVec 32 := 0#32
  let c0_i32_145 : BitVec 32 := 0#32
  let c1_i32_147 : BitVec 32 := 1#32
  let arg12 : BitVec 32 := Scf.iv c0_i32_145 c1_i32_147 k0_t12
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off95 (k0_t12 : Fin k0_t12_loop.trips) : Fin 2 → Nat :=
  let c0_i32_415 : BitVec 32 := 0#32
  let c0_i32_145 : BitVec 32 := 0#32
  let c1_i32_147 : BitVec 32 := 1#32
  let arg12 : BitVec 32 := Scf.iv c0_i32_145 c1_i32_147 k0_t12
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off96 (k0_t12 : Fin k0_t12_loop.trips) : Fin 2 → Nat :=
  let c0_i32_415 : BitVec 32 := 0#32
  let c0_i32_145 : BitVec 32 := 0#32
  let c1_i32_147 : BitVec 32 := 1#32
  let arg12 : BitVec 32 := Scf.iv c0_i32_145 c1_i32_147 k0_t12
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off97 (k0_t12 : Fin k0_t12_loop.trips) : Fin 2 → Nat :=
  let c0_i32_415 : BitVec 32 := 0#32
  let c0_i32_145 : BitVec 32 := 0#32
  let c1_i32_147 : BitVec 32 := 1#32
  let arg12 : BitVec 32 := Scf.iv c0_i32_145 c1_i32_147 k0_t12
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off98 (k0_t12 : Fin k0_t12_loop.trips) : Fin 2 → Nat :=
  let c0_i32_415 : BitVec 32 := 0#32
  let c0_i32_145 : BitVec 32 := 0#32
  let c1_i32_147 : BitVec 32 := 1#32
  let arg12 : BitVec 32 := Scf.iv c0_i32_145 c1_i32_147 k0_t12
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t13_loop : Scf.Loop 32 :=
  let c0_i32_158 : BitVec 32 := 0#32
  let c128_i32_159 : BitVec 32 := 128#32
  let v140 : BitVec 32 := Scalar.addi c0_i32_158 c128_i32_159
  let c1_i32_160 : BitVec 32 := 1#32
  ⟨c0_i32_158, v140, c1_i32_160⟩
def k0_off99 (k0_t13 : Fin k0_t13_loop.trips) : Fin 2 → Nat :=
  let c0_i32_415 : BitVec 32 := 0#32
  let c0_i32_158 : BitVec 32 := 0#32
  let c1_i32_160 : BitVec 32 := 1#32
  let arg12 : BitVec 32 := Scf.iv c0_i32_158 c1_i32_160 k0_t13
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off100 (k0_t13 : Fin k0_t13_loop.trips) : Fin 2 → Nat :=
  let c0_i32_415 : BitVec 32 := 0#32
  let c0_i32_158 : BitVec 32 := 0#32
  let c1_i32_160 : BitVec 32 := 1#32
  let arg12 : BitVec 32 := Scf.iv c0_i32_158 c1_i32_160 k0_t13
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off101 (k0_t13 : Fin k0_t13_loop.trips) : Fin 2 → Nat :=
  let c0_i32_415 : BitVec 32 := 0#32
  let c0_i32_158 : BitVec 32 := 0#32
  let c1_i32_160 : BitVec 32 := 1#32
  let arg12 : BitVec 32 := Scf.iv c0_i32_158 c1_i32_160 k0_t13
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off102 (k0_t13 : Fin k0_t13_loop.trips) : Fin 2 → Nat :=
  let c0_i32_415 : BitVec 32 := 0#32
  let c0_i32_158 : BitVec 32 := 0#32
  let c1_i32_160 : BitVec 32 := 1#32
  let arg12 : BitVec 32 := Scf.iv c0_i32_158 c1_i32_160 k0_t13
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off103 (k0_t13 : Fin k0_t13_loop.trips) : Fin 2 → Nat :=
  let c0_i32_415 : BitVec 32 := 0#32
  let c0_i32_158 : BitVec 32 := 0#32
  let c1_i32_160 : BitVec 32 := 1#32
  let arg12 : BitVec 32 := Scf.iv c0_i32_158 c1_i32_160 k0_t13
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off104 (k0_t13 : Fin k0_t13_loop.trips) : Fin 2 → Nat :=
  let c0_i32_415 : BitVec 32 := 0#32
  let c0_i32_158 : BitVec 32 := 0#32
  let c1_i32_160 : BitVec 32 := 1#32
  let arg12 : BitVec 32 := Scf.iv c0_i32_158 c1_i32_160 k0_t13
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off105 (k0_t13 : Fin k0_t13_loop.trips) : Fin 2 → Nat :=
  let c0_i32_415 : BitVec 32 := 0#32
  let c0_i32_158 : BitVec 32 := 0#32
  let c1_i32_160 : BitVec 32 := 1#32
  let arg12 : BitVec 32 := Scf.iv c0_i32_158 c1_i32_160 k0_t13
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off106 (k0_t13 : Fin k0_t13_loop.trips) : Fin 2 → Nat :=
  let c0_i32_415 : BitVec 32 := 0#32
  let c0_i32_158 : BitVec 32 := 0#32
  let c1_i32_160 : BitVec 32 := 1#32
  let arg12 : BitVec 32 := Scf.iv c0_i32_158 c1_i32_160 k0_t13
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t14_loop : Scf.Loop 32 :=
  let c0_i32_171 : BitVec 32 := 0#32
  let c128_i32_172 : BitVec 32 := 128#32
  let v151 : BitVec 32 := Scalar.addi c0_i32_171 c128_i32_172
  let c1_i32_173 : BitVec 32 := 1#32
  ⟨c0_i32_171, v151, c1_i32_173⟩
def k0_off107 (k0_t14 : Fin k0_t14_loop.trips) : Fin 2 → Nat :=
  let c0_i32_415 : BitVec 32 := 0#32
  let c0_i32_171 : BitVec 32 := 0#32
  let c1_i32_173 : BitVec 32 := 1#32
  let arg12 : BitVec 32 := Scf.iv c0_i32_171 c1_i32_173 k0_t14
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off108 (k0_t14 : Fin k0_t14_loop.trips) : Fin 2 → Nat :=
  let c0_i32_415 : BitVec 32 := 0#32
  let c0_i32_171 : BitVec 32 := 0#32
  let c1_i32_173 : BitVec 32 := 1#32
  let arg12 : BitVec 32 := Scf.iv c0_i32_171 c1_i32_173 k0_t14
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off109 (k0_t14 : Fin k0_t14_loop.trips) : Fin 2 → Nat :=
  let c0_i32_415 : BitVec 32 := 0#32
  let c0_i32_171 : BitVec 32 := 0#32
  let c1_i32_173 : BitVec 32 := 1#32
  let arg12 : BitVec 32 := Scf.iv c0_i32_171 c1_i32_173 k0_t14
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off110 (k0_t14 : Fin k0_t14_loop.trips) : Fin 2 → Nat :=
  let c0_i32_415 : BitVec 32 := 0#32
  let c0_i32_171 : BitVec 32 := 0#32
  let c1_i32_173 : BitVec 32 := 1#32
  let arg12 : BitVec 32 := Scf.iv c0_i32_171 c1_i32_173 k0_t14
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off111 (k0_t14 : Fin k0_t14_loop.trips) : Fin 2 → Nat :=
  let c0_i32_415 : BitVec 32 := 0#32
  let c0_i32_171 : BitVec 32 := 0#32
  let c1_i32_173 : BitVec 32 := 1#32
  let arg12 : BitVec 32 := Scf.iv c0_i32_171 c1_i32_173 k0_t14
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off112 (k0_t14 : Fin k0_t14_loop.trips) : Fin 2 → Nat :=
  let c0_i32_415 : BitVec 32 := 0#32
  let c0_i32_171 : BitVec 32 := 0#32
  let c1_i32_173 : BitVec 32 := 1#32
  let arg12 : BitVec 32 := Scf.iv c0_i32_171 c1_i32_173 k0_t14
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off113 (k0_t14 : Fin k0_t14_loop.trips) : Fin 2 → Nat :=
  let c0_i32_415 : BitVec 32 := 0#32
  let c0_i32_171 : BitVec 32 := 0#32
  let c1_i32_173 : BitVec 32 := 1#32
  let arg12 : BitVec 32 := Scf.iv c0_i32_171 c1_i32_173 k0_t14
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off114 (k0_t14 : Fin k0_t14_loop.trips) : Fin 2 → Nat :=
  let c0_i32_415 : BitVec 32 := 0#32
  let c0_i32_171 : BitVec 32 := 0#32
  let c1_i32_173 : BitVec 32 := 1#32
  let arg12 : BitVec 32 := Scf.iv c0_i32_171 c1_i32_173 k0_t14
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t15_loop : Scf.Loop 32 :=
  let c0_i32_184 : BitVec 32 := 0#32
  let c128_i32_185 : BitVec 32 := 128#32
  let v162 : BitVec 32 := Scalar.addi c0_i32_184 c128_i32_185
  let c1_i32_186 : BitVec 32 := 1#32
  ⟨c0_i32_184, v162, c1_i32_186⟩
def k0_off115 (k0_t15 : Fin k0_t15_loop.trips) : Fin 2 → Nat :=
  let c0_i32_415 : BitVec 32 := 0#32
  let c0_i32_184 : BitVec 32 := 0#32
  let c1_i32_186 : BitVec 32 := 1#32
  let arg12 : BitVec 32 := Scf.iv c0_i32_184 c1_i32_186 k0_t15
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off116 (k0_t15 : Fin k0_t15_loop.trips) : Fin 2 → Nat :=
  let c0_i32_415 : BitVec 32 := 0#32
  let c0_i32_184 : BitVec 32 := 0#32
  let c1_i32_186 : BitVec 32 := 1#32
  let arg12 : BitVec 32 := Scf.iv c0_i32_184 c1_i32_186 k0_t15
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off117 (k0_t15 : Fin k0_t15_loop.trips) : Fin 2 → Nat :=
  let c0_i32_415 : BitVec 32 := 0#32
  let c0_i32_184 : BitVec 32 := 0#32
  let c1_i32_186 : BitVec 32 := 1#32
  let arg12 : BitVec 32 := Scf.iv c0_i32_184 c1_i32_186 k0_t15
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off118 (k0_t15 : Fin k0_t15_loop.trips) : Fin 2 → Nat :=
  let c0_i32_415 : BitVec 32 := 0#32
  let c0_i32_184 : BitVec 32 := 0#32
  let c1_i32_186 : BitVec 32 := 1#32
  let arg12 : BitVec 32 := Scf.iv c0_i32_184 c1_i32_186 k0_t15
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off119 (k0_t15 : Fin k0_t15_loop.trips) : Fin 2 → Nat :=
  let c0_i32_415 : BitVec 32 := 0#32
  let c0_i32_184 : BitVec 32 := 0#32
  let c1_i32_186 : BitVec 32 := 1#32
  let arg12 : BitVec 32 := Scf.iv c0_i32_184 c1_i32_186 k0_t15
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off120 (k0_t15 : Fin k0_t15_loop.trips) : Fin 2 → Nat :=
  let c0_i32_415 : BitVec 32 := 0#32
  let c0_i32_184 : BitVec 32 := 0#32
  let c1_i32_186 : BitVec 32 := 1#32
  let arg12 : BitVec 32 := Scf.iv c0_i32_184 c1_i32_186 k0_t15
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off121 (k0_t15 : Fin k0_t15_loop.trips) : Fin 2 → Nat :=
  let c0_i32_415 : BitVec 32 := 0#32
  let c0_i32_184 : BitVec 32 := 0#32
  let c1_i32_186 : BitVec 32 := 1#32
  let arg12 : BitVec 32 := Scf.iv c0_i32_184 c1_i32_186 k0_t15
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off122 (k0_t15 : Fin k0_t15_loop.trips) : Fin 2 → Nat :=
  let c0_i32_415 : BitVec 32 := 0#32
  let c0_i32_184 : BitVec 32 := 0#32
  let c1_i32_186 : BitVec 32 := 1#32
  let arg12 : BitVec 32 := Scf.iv c0_i32_184 c1_i32_186 k0_t15
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t16_loop : Scf.Loop 32 :=
  let c0_i32_197 : BitVec 32 := 0#32
  let c128_i32_198 : BitVec 32 := 128#32
  let v173 : BitVec 32 := Scalar.addi c0_i32_197 c128_i32_198
  let c1_i32_199 : BitVec 32 := 1#32
  ⟨c0_i32_197, v173, c1_i32_199⟩
def k0_off123 (k0_t16 : Fin k0_t16_loop.trips) : Fin 2 → Nat :=
  let c0_i32_415 : BitVec 32 := 0#32
  let c0_i32_197 : BitVec 32 := 0#32
  let c1_i32_199 : BitVec 32 := 1#32
  let arg12 : BitVec 32 := Scf.iv c0_i32_197 c1_i32_199 k0_t16
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off124 (k0_t16 : Fin k0_t16_loop.trips) : Fin 2 → Nat :=
  let c0_i32_415 : BitVec 32 := 0#32
  let c0_i32_197 : BitVec 32 := 0#32
  let c1_i32_199 : BitVec 32 := 1#32
  let arg12 : BitVec 32 := Scf.iv c0_i32_197 c1_i32_199 k0_t16
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off125 (k0_t16 : Fin k0_t16_loop.trips) : Fin 2 → Nat :=
  let c0_i32_415 : BitVec 32 := 0#32
  let c0_i32_197 : BitVec 32 := 0#32
  let c1_i32_199 : BitVec 32 := 1#32
  let arg12 : BitVec 32 := Scf.iv c0_i32_197 c1_i32_199 k0_t16
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off126 (k0_t16 : Fin k0_t16_loop.trips) : Fin 2 → Nat :=
  let c0_i32_415 : BitVec 32 := 0#32
  let c0_i32_197 : BitVec 32 := 0#32
  let c1_i32_199 : BitVec 32 := 1#32
  let arg12 : BitVec 32 := Scf.iv c0_i32_197 c1_i32_199 k0_t16
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off127 (k0_t16 : Fin k0_t16_loop.trips) : Fin 2 → Nat :=
  let c0_i32_415 : BitVec 32 := 0#32
  let c0_i32_197 : BitVec 32 := 0#32
  let c1_i32_199 : BitVec 32 := 1#32
  let arg12 : BitVec 32 := Scf.iv c0_i32_197 c1_i32_199 k0_t16
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off128 (k0_t16 : Fin k0_t16_loop.trips) : Fin 2 → Nat :=
  let c0_i32_415 : BitVec 32 := 0#32
  let c0_i32_197 : BitVec 32 := 0#32
  let c1_i32_199 : BitVec 32 := 1#32
  let arg12 : BitVec 32 := Scf.iv c0_i32_197 c1_i32_199 k0_t16
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off129 (k0_t16 : Fin k0_t16_loop.trips) : Fin 2 → Nat :=
  let c0_i32_415 : BitVec 32 := 0#32
  let c0_i32_197 : BitVec 32 := 0#32
  let c1_i32_199 : BitVec 32 := 1#32
  let arg12 : BitVec 32 := Scf.iv c0_i32_197 c1_i32_199 k0_t16
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off130 (k0_t16 : Fin k0_t16_loop.trips) : Fin 2 → Nat :=
  let c0_i32_415 : BitVec 32 := 0#32
  let c0_i32_197 : BitVec 32 := 0#32
  let c1_i32_199 : BitVec 32 := 1#32
  let arg12 : BitVec 32 := Scf.iv c0_i32_197 c1_i32_199 k0_t16
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t17_loop : Scf.Loop 32 :=
  let c0_i32_210 : BitVec 32 := 0#32
  let c128_i32_211 : BitVec 32 := 128#32
  let v184 : BitVec 32 := Scalar.addi c0_i32_210 c128_i32_211
  let c1_i32_212 : BitVec 32 := 1#32
  ⟨c0_i32_210, v184, c1_i32_212⟩
def k0_off131 (k0_t17 : Fin k0_t17_loop.trips) : Fin 2 → Nat :=
  let c0_i32_415 : BitVec 32 := 0#32
  let c0_i32_210 : BitVec 32 := 0#32
  let c1_i32_212 : BitVec 32 := 1#32
  let arg12 : BitVec 32 := Scf.iv c0_i32_210 c1_i32_212 k0_t17
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off132 (k0_t17 : Fin k0_t17_loop.trips) : Fin 2 → Nat :=
  let c0_i32_415 : BitVec 32 := 0#32
  let c0_i32_210 : BitVec 32 := 0#32
  let c1_i32_212 : BitVec 32 := 1#32
  let arg12 : BitVec 32 := Scf.iv c0_i32_210 c1_i32_212 k0_t17
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off133 (k0_t17 : Fin k0_t17_loop.trips) : Fin 2 → Nat :=
  let c0_i32_415 : BitVec 32 := 0#32
  let c0_i32_210 : BitVec 32 := 0#32
  let c1_i32_212 : BitVec 32 := 1#32
  let arg12 : BitVec 32 := Scf.iv c0_i32_210 c1_i32_212 k0_t17
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off134 (k0_t17 : Fin k0_t17_loop.trips) : Fin 2 → Nat :=
  let c0_i32_415 : BitVec 32 := 0#32
  let c0_i32_210 : BitVec 32 := 0#32
  let c1_i32_212 : BitVec 32 := 1#32
  let arg12 : BitVec 32 := Scf.iv c0_i32_210 c1_i32_212 k0_t17
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off135 (k0_t17 : Fin k0_t17_loop.trips) : Fin 2 → Nat :=
  let c0_i32_415 : BitVec 32 := 0#32
  let c0_i32_210 : BitVec 32 := 0#32
  let c1_i32_212 : BitVec 32 := 1#32
  let arg12 : BitVec 32 := Scf.iv c0_i32_210 c1_i32_212 k0_t17
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off136 (k0_t17 : Fin k0_t17_loop.trips) : Fin 2 → Nat :=
  let c0_i32_415 : BitVec 32 := 0#32
  let c0_i32_210 : BitVec 32 := 0#32
  let c1_i32_212 : BitVec 32 := 1#32
  let arg12 : BitVec 32 := Scf.iv c0_i32_210 c1_i32_212 k0_t17
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off137 (k0_t17 : Fin k0_t17_loop.trips) : Fin 2 → Nat :=
  let c0_i32_415 : BitVec 32 := 0#32
  let c0_i32_210 : BitVec 32 := 0#32
  let c1_i32_212 : BitVec 32 := 1#32
  let arg12 : BitVec 32 := Scf.iv c0_i32_210 c1_i32_212 k0_t17
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off138 (k0_t17 : Fin k0_t17_loop.trips) : Fin 2 → Nat :=
  let c0_i32_415 : BitVec 32 := 0#32
  let c0_i32_210 : BitVec 32 := 0#32
  let c1_i32_212 : BitVec 32 := 1#32
  let arg12 : BitVec 32 := Scf.iv c0_i32_210 c1_i32_212 k0_t17
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t18_loop : Scf.Loop 32 :=
  let c0_i32_223 : BitVec 32 := 0#32
  let c128_i32_224 : BitVec 32 := 128#32
  let v195 : BitVec 32 := Scalar.addi c0_i32_223 c128_i32_224
  let c1_i32_225 : BitVec 32 := 1#32
  ⟨c0_i32_223, v195, c1_i32_225⟩
def k0_off139 (k0_t18 : Fin k0_t18_loop.trips) : Fin 2 → Nat :=
  let c0_i32_415 : BitVec 32 := 0#32
  let c0_i32_223 : BitVec 32 := 0#32
  let c1_i32_225 : BitVec 32 := 1#32
  let arg12 : BitVec 32 := Scf.iv c0_i32_223 c1_i32_225 k0_t18
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off140 (k0_t18 : Fin k0_t18_loop.trips) : Fin 2 → Nat :=
  let c0_i32_415 : BitVec 32 := 0#32
  let c0_i32_223 : BitVec 32 := 0#32
  let c1_i32_225 : BitVec 32 := 1#32
  let arg12 : BitVec 32 := Scf.iv c0_i32_223 c1_i32_225 k0_t18
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off141 (k0_t18 : Fin k0_t18_loop.trips) : Fin 2 → Nat :=
  let c0_i32_415 : BitVec 32 := 0#32
  let c0_i32_223 : BitVec 32 := 0#32
  let c1_i32_225 : BitVec 32 := 1#32
  let arg12 : BitVec 32 := Scf.iv c0_i32_223 c1_i32_225 k0_t18
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off142 (k0_t18 : Fin k0_t18_loop.trips) : Fin 2 → Nat :=
  let c0_i32_415 : BitVec 32 := 0#32
  let c0_i32_223 : BitVec 32 := 0#32
  let c1_i32_225 : BitVec 32 := 1#32
  let arg12 : BitVec 32 := Scf.iv c0_i32_223 c1_i32_225 k0_t18
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off143 (k0_t18 : Fin k0_t18_loop.trips) : Fin 2 → Nat :=
  let c0_i32_415 : BitVec 32 := 0#32
  let c0_i32_223 : BitVec 32 := 0#32
  let c1_i32_225 : BitVec 32 := 1#32
  let arg12 : BitVec 32 := Scf.iv c0_i32_223 c1_i32_225 k0_t18
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off144 (k0_t18 : Fin k0_t18_loop.trips) : Fin 2 → Nat :=
  let c0_i32_415 : BitVec 32 := 0#32
  let c0_i32_223 : BitVec 32 := 0#32
  let c1_i32_225 : BitVec 32 := 1#32
  let arg12 : BitVec 32 := Scf.iv c0_i32_223 c1_i32_225 k0_t18
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off145 (k0_t18 : Fin k0_t18_loop.trips) : Fin 2 → Nat :=
  let c0_i32_415 : BitVec 32 := 0#32
  let c0_i32_223 : BitVec 32 := 0#32
  let c1_i32_225 : BitVec 32 := 1#32
  let arg12 : BitVec 32 := Scf.iv c0_i32_223 c1_i32_225 k0_t18
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off146 (k0_t18 : Fin k0_t18_loop.trips) : Fin 2 → Nat :=
  let c0_i32_415 : BitVec 32 := 0#32
  let c0_i32_223 : BitVec 32 := 0#32
  let c1_i32_225 : BitVec 32 := 1#32
  let arg12 : BitVec 32 := Scf.iv c0_i32_223 c1_i32_225 k0_t18
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t19_loop : Scf.Loop 32 :=
  let c0_i32_236 : BitVec 32 := 0#32
  let c128_i32_237 : BitVec 32 := 128#32
  let v206 : BitVec 32 := Scalar.addi c0_i32_236 c128_i32_237
  let c1_i32_238 : BitVec 32 := 1#32
  ⟨c0_i32_236, v206, c1_i32_238⟩
def k0_off147 (k0_t19 : Fin k0_t19_loop.trips) : Fin 2 → Nat :=
  let c0_i32_415 : BitVec 32 := 0#32
  let c0_i32_236 : BitVec 32 := 0#32
  let c1_i32_238 : BitVec 32 := 1#32
  let arg12 : BitVec 32 := Scf.iv c0_i32_236 c1_i32_238 k0_t19
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off148 (k0_t19 : Fin k0_t19_loop.trips) : Fin 2 → Nat :=
  let c0_i32_415 : BitVec 32 := 0#32
  let c0_i32_236 : BitVec 32 := 0#32
  let c1_i32_238 : BitVec 32 := 1#32
  let arg12 : BitVec 32 := Scf.iv c0_i32_236 c1_i32_238 k0_t19
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off149 (k0_t19 : Fin k0_t19_loop.trips) : Fin 2 → Nat :=
  let c0_i32_415 : BitVec 32 := 0#32
  let c0_i32_236 : BitVec 32 := 0#32
  let c1_i32_238 : BitVec 32 := 1#32
  let arg12 : BitVec 32 := Scf.iv c0_i32_236 c1_i32_238 k0_t19
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off150 (k0_t19 : Fin k0_t19_loop.trips) : Fin 2 → Nat :=
  let c0_i32_415 : BitVec 32 := 0#32
  let c0_i32_236 : BitVec 32 := 0#32
  let c1_i32_238 : BitVec 32 := 1#32
  let arg12 : BitVec 32 := Scf.iv c0_i32_236 c1_i32_238 k0_t19
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off151 (k0_t19 : Fin k0_t19_loop.trips) : Fin 2 → Nat :=
  let c0_i32_415 : BitVec 32 := 0#32
  let c0_i32_236 : BitVec 32 := 0#32
  let c1_i32_238 : BitVec 32 := 1#32
  let arg12 : BitVec 32 := Scf.iv c0_i32_236 c1_i32_238 k0_t19
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off152 (k0_t19 : Fin k0_t19_loop.trips) : Fin 2 → Nat :=
  let c0_i32_415 : BitVec 32 := 0#32
  let c0_i32_236 : BitVec 32 := 0#32
  let c1_i32_238 : BitVec 32 := 1#32
  let arg12 : BitVec 32 := Scf.iv c0_i32_236 c1_i32_238 k0_t19
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off153 (k0_t19 : Fin k0_t19_loop.trips) : Fin 2 → Nat :=
  let c0_i32_415 : BitVec 32 := 0#32
  let c0_i32_236 : BitVec 32 := 0#32
  let c1_i32_238 : BitVec 32 := 1#32
  let arg12 : BitVec 32 := Scf.iv c0_i32_236 c1_i32_238 k0_t19
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off154 (k0_t19 : Fin k0_t19_loop.trips) : Fin 2 → Nat :=
  let c0_i32_415 : BitVec 32 := 0#32
  let c0_i32_236 : BitVec 32 := 0#32
  let c1_i32_238 : BitVec 32 := 1#32
  let arg12 : BitVec 32 := Scf.iv c0_i32_236 c1_i32_238 k0_t19
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t20_loop : Scf.Loop 32 :=
  let c0_i32_249 : BitVec 32 := 0#32
  let c128_i32_250 : BitVec 32 := 128#32
  let v217 : BitVec 32 := Scalar.addi c0_i32_249 c128_i32_250
  let c1_i32_251 : BitVec 32 := 1#32
  ⟨c0_i32_249, v217, c1_i32_251⟩
def k0_off155 (k0_t20 : Fin k0_t20_loop.trips) : Fin 2 → Nat :=
  let c0_i32_415 : BitVec 32 := 0#32
  let c0_i32_249 : BitVec 32 := 0#32
  let c1_i32_251 : BitVec 32 := 1#32
  let arg12 : BitVec 32 := Scf.iv c0_i32_249 c1_i32_251 k0_t20
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off156 (k0_t20 : Fin k0_t20_loop.trips) : Fin 2 → Nat :=
  let c0_i32_415 : BitVec 32 := 0#32
  let c0_i32_249 : BitVec 32 := 0#32
  let c1_i32_251 : BitVec 32 := 1#32
  let arg12 : BitVec 32 := Scf.iv c0_i32_249 c1_i32_251 k0_t20
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off157 (k0_t20 : Fin k0_t20_loop.trips) : Fin 2 → Nat :=
  let c0_i32_415 : BitVec 32 := 0#32
  let c0_i32_249 : BitVec 32 := 0#32
  let c1_i32_251 : BitVec 32 := 1#32
  let arg12 : BitVec 32 := Scf.iv c0_i32_249 c1_i32_251 k0_t20
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off158 (k0_t20 : Fin k0_t20_loop.trips) : Fin 2 → Nat :=
  let c0_i32_415 : BitVec 32 := 0#32
  let c0_i32_249 : BitVec 32 := 0#32
  let c1_i32_251 : BitVec 32 := 1#32
  let arg12 : BitVec 32 := Scf.iv c0_i32_249 c1_i32_251 k0_t20
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off159 (k0_t20 : Fin k0_t20_loop.trips) : Fin 2 → Nat :=
  let c0_i32_415 : BitVec 32 := 0#32
  let c0_i32_249 : BitVec 32 := 0#32
  let c1_i32_251 : BitVec 32 := 1#32
  let arg12 : BitVec 32 := Scf.iv c0_i32_249 c1_i32_251 k0_t20
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off160 (k0_t20 : Fin k0_t20_loop.trips) : Fin 2 → Nat :=
  let c0_i32_415 : BitVec 32 := 0#32
  let c0_i32_249 : BitVec 32 := 0#32
  let c1_i32_251 : BitVec 32 := 1#32
  let arg12 : BitVec 32 := Scf.iv c0_i32_249 c1_i32_251 k0_t20
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off161 (k0_t20 : Fin k0_t20_loop.trips) : Fin 2 → Nat :=
  let c0_i32_415 : BitVec 32 := 0#32
  let c0_i32_249 : BitVec 32 := 0#32
  let c1_i32_251 : BitVec 32 := 1#32
  let arg12 : BitVec 32 := Scf.iv c0_i32_249 c1_i32_251 k0_t20
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off162 (k0_t20 : Fin k0_t20_loop.trips) : Fin 2 → Nat :=
  let c0_i32_415 : BitVec 32 := 0#32
  let c0_i32_249 : BitVec 32 := 0#32
  let c1_i32_251 : BitVec 32 := 1#32
  let arg12 : BitVec 32 := Scf.iv c0_i32_249 c1_i32_251 k0_t20
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t21_loop : Scf.Loop 32 :=
  let c0_i32_262 : BitVec 32 := 0#32
  let c128_i32_263 : BitVec 32 := 128#32
  let v228 : BitVec 32 := Scalar.addi c0_i32_262 c128_i32_263
  let c1_i32_264 : BitVec 32 := 1#32
  ⟨c0_i32_262, v228, c1_i32_264⟩
def k0_off163 (k0_t21 : Fin k0_t21_loop.trips) : Fin 2 → Nat :=
  let c0_i32_415 : BitVec 32 := 0#32
  let c0_i32_262 : BitVec 32 := 0#32
  let c1_i32_264 : BitVec 32 := 1#32
  let arg12 : BitVec 32 := Scf.iv c0_i32_262 c1_i32_264 k0_t21
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off164 (k0_t21 : Fin k0_t21_loop.trips) : Fin 2 → Nat :=
  let c0_i32_415 : BitVec 32 := 0#32
  let c0_i32_262 : BitVec 32 := 0#32
  let c1_i32_264 : BitVec 32 := 1#32
  let arg12 : BitVec 32 := Scf.iv c0_i32_262 c1_i32_264 k0_t21
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off165 (k0_t21 : Fin k0_t21_loop.trips) : Fin 2 → Nat :=
  let c0_i32_415 : BitVec 32 := 0#32
  let c0_i32_262 : BitVec 32 := 0#32
  let c1_i32_264 : BitVec 32 := 1#32
  let arg12 : BitVec 32 := Scf.iv c0_i32_262 c1_i32_264 k0_t21
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off166 (k0_t21 : Fin k0_t21_loop.trips) : Fin 2 → Nat :=
  let c0_i32_415 : BitVec 32 := 0#32
  let c0_i32_262 : BitVec 32 := 0#32
  let c1_i32_264 : BitVec 32 := 1#32
  let arg12 : BitVec 32 := Scf.iv c0_i32_262 c1_i32_264 k0_t21
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off167 (k0_t21 : Fin k0_t21_loop.trips) : Fin 2 → Nat :=
  let c0_i32_415 : BitVec 32 := 0#32
  let c0_i32_262 : BitVec 32 := 0#32
  let c1_i32_264 : BitVec 32 := 1#32
  let arg12 : BitVec 32 := Scf.iv c0_i32_262 c1_i32_264 k0_t21
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off168 (k0_t21 : Fin k0_t21_loop.trips) : Fin 2 → Nat :=
  let c0_i32_415 : BitVec 32 := 0#32
  let c0_i32_262 : BitVec 32 := 0#32
  let c1_i32_264 : BitVec 32 := 1#32
  let arg12 : BitVec 32 := Scf.iv c0_i32_262 c1_i32_264 k0_t21
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off169 (k0_t21 : Fin k0_t21_loop.trips) : Fin 2 → Nat :=
  let c0_i32_415 : BitVec 32 := 0#32
  let c0_i32_262 : BitVec 32 := 0#32
  let c1_i32_264 : BitVec 32 := 1#32
  let arg12 : BitVec 32 := Scf.iv c0_i32_262 c1_i32_264 k0_t21
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off170 (k0_t21 : Fin k0_t21_loop.trips) : Fin 2 → Nat :=
  let c0_i32_415 : BitVec 32 := 0#32
  let c0_i32_262 : BitVec 32 := 0#32
  let c1_i32_264 : BitVec 32 := 1#32
  let arg12 : BitVec 32 := Scf.iv c0_i32_262 c1_i32_264 k0_t21
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t22_loop : Scf.Loop 32 :=
  let c0_i32_275 : BitVec 32 := 0#32
  let c128_i32_276 : BitVec 32 := 128#32
  let v239 : BitVec 32 := Scalar.addi c0_i32_275 c128_i32_276
  let c1_i32_277 : BitVec 32 := 1#32
  ⟨c0_i32_275, v239, c1_i32_277⟩
def k0_off171 (k0_t22 : Fin k0_t22_loop.trips) : Fin 2 → Nat :=
  let c0_i32_415 : BitVec 32 := 0#32
  let c0_i32_275 : BitVec 32 := 0#32
  let c1_i32_277 : BitVec 32 := 1#32
  let arg12 : BitVec 32 := Scf.iv c0_i32_275 c1_i32_277 k0_t22
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off172 (k0_t22 : Fin k0_t22_loop.trips) : Fin 2 → Nat :=
  let c0_i32_415 : BitVec 32 := 0#32
  let c0_i32_275 : BitVec 32 := 0#32
  let c1_i32_277 : BitVec 32 := 1#32
  let arg12 : BitVec 32 := Scf.iv c0_i32_275 c1_i32_277 k0_t22
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off173 (k0_t22 : Fin k0_t22_loop.trips) : Fin 2 → Nat :=
  let c0_i32_415 : BitVec 32 := 0#32
  let c0_i32_275 : BitVec 32 := 0#32
  let c1_i32_277 : BitVec 32 := 1#32
  let arg12 : BitVec 32 := Scf.iv c0_i32_275 c1_i32_277 k0_t22
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off174 (k0_t22 : Fin k0_t22_loop.trips) : Fin 2 → Nat :=
  let c0_i32_415 : BitVec 32 := 0#32
  let c0_i32_275 : BitVec 32 := 0#32
  let c1_i32_277 : BitVec 32 := 1#32
  let arg12 : BitVec 32 := Scf.iv c0_i32_275 c1_i32_277 k0_t22
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off175 (k0_t22 : Fin k0_t22_loop.trips) : Fin 2 → Nat :=
  let c0_i32_415 : BitVec 32 := 0#32
  let c0_i32_275 : BitVec 32 := 0#32
  let c1_i32_277 : BitVec 32 := 1#32
  let arg12 : BitVec 32 := Scf.iv c0_i32_275 c1_i32_277 k0_t22
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off176 (k0_t22 : Fin k0_t22_loop.trips) : Fin 2 → Nat :=
  let c0_i32_415 : BitVec 32 := 0#32
  let c0_i32_275 : BitVec 32 := 0#32
  let c1_i32_277 : BitVec 32 := 1#32
  let arg12 : BitVec 32 := Scf.iv c0_i32_275 c1_i32_277 k0_t22
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off177 (k0_t22 : Fin k0_t22_loop.trips) : Fin 2 → Nat :=
  let c0_i32_415 : BitVec 32 := 0#32
  let c0_i32_275 : BitVec 32 := 0#32
  let c1_i32_277 : BitVec 32 := 1#32
  let arg12 : BitVec 32 := Scf.iv c0_i32_275 c1_i32_277 k0_t22
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off178 (k0_t22 : Fin k0_t22_loop.trips) : Fin 2 → Nat :=
  let c0_i32_415 : BitVec 32 := 0#32
  let c0_i32_275 : BitVec 32 := 0#32
  let c1_i32_277 : BitVec 32 := 1#32
  let arg12 : BitVec 32 := Scf.iv c0_i32_275 c1_i32_277 k0_t22
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t23_loop : Scf.Loop 32 :=
  let c0_i32_288 : BitVec 32 := 0#32
  let c128_i32_289 : BitVec 32 := 128#32
  let v250 : BitVec 32 := Scalar.addi c0_i32_288 c128_i32_289
  let c1_i32_290 : BitVec 32 := 1#32
  ⟨c0_i32_288, v250, c1_i32_290⟩
def k0_off179 (k0_t23 : Fin k0_t23_loop.trips) : Fin 2 → Nat :=
  let c0_i32_415 : BitVec 32 := 0#32
  let c0_i32_288 : BitVec 32 := 0#32
  let c1_i32_290 : BitVec 32 := 1#32
  let arg12 : BitVec 32 := Scf.iv c0_i32_288 c1_i32_290 k0_t23
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off180 (k0_t23 : Fin k0_t23_loop.trips) : Fin 2 → Nat :=
  let c0_i32_415 : BitVec 32 := 0#32
  let c0_i32_288 : BitVec 32 := 0#32
  let c1_i32_290 : BitVec 32 := 1#32
  let arg12 : BitVec 32 := Scf.iv c0_i32_288 c1_i32_290 k0_t23
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off181 (k0_t23 : Fin k0_t23_loop.trips) : Fin 2 → Nat :=
  let c0_i32_415 : BitVec 32 := 0#32
  let c0_i32_288 : BitVec 32 := 0#32
  let c1_i32_290 : BitVec 32 := 1#32
  let arg12 : BitVec 32 := Scf.iv c0_i32_288 c1_i32_290 k0_t23
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off182 (k0_t23 : Fin k0_t23_loop.trips) : Fin 2 → Nat :=
  let c0_i32_415 : BitVec 32 := 0#32
  let c0_i32_288 : BitVec 32 := 0#32
  let c1_i32_290 : BitVec 32 := 1#32
  let arg12 : BitVec 32 := Scf.iv c0_i32_288 c1_i32_290 k0_t23
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off183 (k0_t23 : Fin k0_t23_loop.trips) : Fin 2 → Nat :=
  let c0_i32_415 : BitVec 32 := 0#32
  let c0_i32_288 : BitVec 32 := 0#32
  let c1_i32_290 : BitVec 32 := 1#32
  let arg12 : BitVec 32 := Scf.iv c0_i32_288 c1_i32_290 k0_t23
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off184 (k0_t23 : Fin k0_t23_loop.trips) : Fin 2 → Nat :=
  let c0_i32_415 : BitVec 32 := 0#32
  let c0_i32_288 : BitVec 32 := 0#32
  let c1_i32_290 : BitVec 32 := 1#32
  let arg12 : BitVec 32 := Scf.iv c0_i32_288 c1_i32_290 k0_t23
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off185 (k0_t23 : Fin k0_t23_loop.trips) : Fin 2 → Nat :=
  let c0_i32_415 : BitVec 32 := 0#32
  let c0_i32_288 : BitVec 32 := 0#32
  let c1_i32_290 : BitVec 32 := 1#32
  let arg12 : BitVec 32 := Scf.iv c0_i32_288 c1_i32_290 k0_t23
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off186 (k0_t23 : Fin k0_t23_loop.trips) : Fin 2 → Nat :=
  let c0_i32_415 : BitVec 32 := 0#32
  let c0_i32_288 : BitVec 32 := 0#32
  let c1_i32_290 : BitVec 32 := 1#32
  let arg12 : BitVec 32 := Scf.iv c0_i32_288 c1_i32_290 k0_t23
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t24_loop : Scf.Loop 32 :=
  let c0_i32_301 : BitVec 32 := 0#32
  let c128_i32_302 : BitVec 32 := 128#32
  let v261 : BitVec 32 := Scalar.addi c0_i32_301 c128_i32_302
  let c1_i32_303 : BitVec 32 := 1#32
  ⟨c0_i32_301, v261, c1_i32_303⟩
def k0_off187 (k0_t24 : Fin k0_t24_loop.trips) : Fin 2 → Nat :=
  let c0_i32_415 : BitVec 32 := 0#32
  let c0_i32_301 : BitVec 32 := 0#32
  let c1_i32_303 : BitVec 32 := 1#32
  let arg12 : BitVec 32 := Scf.iv c0_i32_301 c1_i32_303 k0_t24
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off188 (k0_t24 : Fin k0_t24_loop.trips) : Fin 2 → Nat :=
  let c0_i32_415 : BitVec 32 := 0#32
  let c0_i32_301 : BitVec 32 := 0#32
  let c1_i32_303 : BitVec 32 := 1#32
  let arg12 : BitVec 32 := Scf.iv c0_i32_301 c1_i32_303 k0_t24
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off189 (k0_t24 : Fin k0_t24_loop.trips) : Fin 2 → Nat :=
  let c0_i32_415 : BitVec 32 := 0#32
  let c0_i32_301 : BitVec 32 := 0#32
  let c1_i32_303 : BitVec 32 := 1#32
  let arg12 : BitVec 32 := Scf.iv c0_i32_301 c1_i32_303 k0_t24
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off190 (k0_t24 : Fin k0_t24_loop.trips) : Fin 2 → Nat :=
  let c0_i32_415 : BitVec 32 := 0#32
  let c0_i32_301 : BitVec 32 := 0#32
  let c1_i32_303 : BitVec 32 := 1#32
  let arg12 : BitVec 32 := Scf.iv c0_i32_301 c1_i32_303 k0_t24
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off191 (k0_t24 : Fin k0_t24_loop.trips) : Fin 2 → Nat :=
  let c0_i32_415 : BitVec 32 := 0#32
  let c0_i32_301 : BitVec 32 := 0#32
  let c1_i32_303 : BitVec 32 := 1#32
  let arg12 : BitVec 32 := Scf.iv c0_i32_301 c1_i32_303 k0_t24
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off192 (k0_t24 : Fin k0_t24_loop.trips) : Fin 2 → Nat :=
  let c0_i32_415 : BitVec 32 := 0#32
  let c0_i32_301 : BitVec 32 := 0#32
  let c1_i32_303 : BitVec 32 := 1#32
  let arg12 : BitVec 32 := Scf.iv c0_i32_301 c1_i32_303 k0_t24
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off193 (k0_t24 : Fin k0_t24_loop.trips) : Fin 2 → Nat :=
  let c0_i32_415 : BitVec 32 := 0#32
  let c0_i32_301 : BitVec 32 := 0#32
  let c1_i32_303 : BitVec 32 := 1#32
  let arg12 : BitVec 32 := Scf.iv c0_i32_301 c1_i32_303 k0_t24
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off194 (k0_t24 : Fin k0_t24_loop.trips) : Fin 2 → Nat :=
  let c0_i32_415 : BitVec 32 := 0#32
  let c0_i32_301 : BitVec 32 := 0#32
  let c1_i32_303 : BitVec 32 := 1#32
  let arg12 : BitVec 32 := Scf.iv c0_i32_301 c1_i32_303 k0_t24
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t25_loop : Scf.Loop 32 :=
  let c0_i32_314 : BitVec 32 := 0#32
  let c128_i32_315 : BitVec 32 := 128#32
  let v272 : BitVec 32 := Scalar.addi c0_i32_314 c128_i32_315
  let c1_i32_316 : BitVec 32 := 1#32
  ⟨c0_i32_314, v272, c1_i32_316⟩
def k0_off195 (k0_t25 : Fin k0_t25_loop.trips) : Fin 2 → Nat :=
  let c0_i32_415 : BitVec 32 := 0#32
  let c0_i32_314 : BitVec 32 := 0#32
  let c1_i32_316 : BitVec 32 := 1#32
  let arg12 : BitVec 32 := Scf.iv c0_i32_314 c1_i32_316 k0_t25
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off196 (k0_t25 : Fin k0_t25_loop.trips) : Fin 2 → Nat :=
  let c0_i32_415 : BitVec 32 := 0#32
  let c0_i32_314 : BitVec 32 := 0#32
  let c1_i32_316 : BitVec 32 := 1#32
  let arg12 : BitVec 32 := Scf.iv c0_i32_314 c1_i32_316 k0_t25
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off197 (k0_t25 : Fin k0_t25_loop.trips) : Fin 2 → Nat :=
  let c0_i32_415 : BitVec 32 := 0#32
  let c0_i32_314 : BitVec 32 := 0#32
  let c1_i32_316 : BitVec 32 := 1#32
  let arg12 : BitVec 32 := Scf.iv c0_i32_314 c1_i32_316 k0_t25
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off198 (k0_t25 : Fin k0_t25_loop.trips) : Fin 2 → Nat :=
  let c0_i32_415 : BitVec 32 := 0#32
  let c0_i32_314 : BitVec 32 := 0#32
  let c1_i32_316 : BitVec 32 := 1#32
  let arg12 : BitVec 32 := Scf.iv c0_i32_314 c1_i32_316 k0_t25
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off199 (k0_t25 : Fin k0_t25_loop.trips) : Fin 2 → Nat :=
  let c0_i32_415 : BitVec 32 := 0#32
  let c0_i32_314 : BitVec 32 := 0#32
  let c1_i32_316 : BitVec 32 := 1#32
  let arg12 : BitVec 32 := Scf.iv c0_i32_314 c1_i32_316 k0_t25
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off200 (k0_t25 : Fin k0_t25_loop.trips) : Fin 2 → Nat :=
  let c0_i32_415 : BitVec 32 := 0#32
  let c0_i32_314 : BitVec 32 := 0#32
  let c1_i32_316 : BitVec 32 := 1#32
  let arg12 : BitVec 32 := Scf.iv c0_i32_314 c1_i32_316 k0_t25
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off201 (k0_t25 : Fin k0_t25_loop.trips) : Fin 2 → Nat :=
  let c0_i32_415 : BitVec 32 := 0#32
  let c0_i32_314 : BitVec 32 := 0#32
  let c1_i32_316 : BitVec 32 := 1#32
  let arg12 : BitVec 32 := Scf.iv c0_i32_314 c1_i32_316 k0_t25
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off202 (k0_t25 : Fin k0_t25_loop.trips) : Fin 2 → Nat :=
  let c0_i32_415 : BitVec 32 := 0#32
  let c0_i32_314 : BitVec 32 := 0#32
  let c1_i32_316 : BitVec 32 := 1#32
  let arg12 : BitVec 32 := Scf.iv c0_i32_314 c1_i32_316 k0_t25
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t26_loop : Scf.Loop 32 :=
  let c0_i32_327 : BitVec 32 := 0#32
  let c128_i32_328 : BitVec 32 := 128#32
  let v283 : BitVec 32 := Scalar.addi c0_i32_327 c128_i32_328
  let c1_i32_329 : BitVec 32 := 1#32
  ⟨c0_i32_327, v283, c1_i32_329⟩
def k0_off203 (k0_t26 : Fin k0_t26_loop.trips) : Fin 2 → Nat :=
  let c0_i32_415 : BitVec 32 := 0#32
  let c0_i32_327 : BitVec 32 := 0#32
  let c1_i32_329 : BitVec 32 := 1#32
  let arg12 : BitVec 32 := Scf.iv c0_i32_327 c1_i32_329 k0_t26
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off204 (k0_t26 : Fin k0_t26_loop.trips) : Fin 2 → Nat :=
  let c0_i32_415 : BitVec 32 := 0#32
  let c0_i32_327 : BitVec 32 := 0#32
  let c1_i32_329 : BitVec 32 := 1#32
  let arg12 : BitVec 32 := Scf.iv c0_i32_327 c1_i32_329 k0_t26
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off205 (k0_t26 : Fin k0_t26_loop.trips) : Fin 2 → Nat :=
  let c0_i32_415 : BitVec 32 := 0#32
  let c0_i32_327 : BitVec 32 := 0#32
  let c1_i32_329 : BitVec 32 := 1#32
  let arg12 : BitVec 32 := Scf.iv c0_i32_327 c1_i32_329 k0_t26
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off206 (k0_t26 : Fin k0_t26_loop.trips) : Fin 2 → Nat :=
  let c0_i32_415 : BitVec 32 := 0#32
  let c0_i32_327 : BitVec 32 := 0#32
  let c1_i32_329 : BitVec 32 := 1#32
  let arg12 : BitVec 32 := Scf.iv c0_i32_327 c1_i32_329 k0_t26
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off207 (k0_t26 : Fin k0_t26_loop.trips) : Fin 2 → Nat :=
  let c0_i32_415 : BitVec 32 := 0#32
  let c0_i32_327 : BitVec 32 := 0#32
  let c1_i32_329 : BitVec 32 := 1#32
  let arg12 : BitVec 32 := Scf.iv c0_i32_327 c1_i32_329 k0_t26
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off208 (k0_t26 : Fin k0_t26_loop.trips) : Fin 2 → Nat :=
  let c0_i32_415 : BitVec 32 := 0#32
  let c0_i32_327 : BitVec 32 := 0#32
  let c1_i32_329 : BitVec 32 := 1#32
  let arg12 : BitVec 32 := Scf.iv c0_i32_327 c1_i32_329 k0_t26
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off209 (k0_t26 : Fin k0_t26_loop.trips) : Fin 2 → Nat :=
  let c0_i32_415 : BitVec 32 := 0#32
  let c0_i32_327 : BitVec 32 := 0#32
  let c1_i32_329 : BitVec 32 := 1#32
  let arg12 : BitVec 32 := Scf.iv c0_i32_327 c1_i32_329 k0_t26
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off210 (k0_t26 : Fin k0_t26_loop.trips) : Fin 2 → Nat :=
  let c0_i32_415 : BitVec 32 := 0#32
  let c0_i32_327 : BitVec 32 := 0#32
  let c1_i32_329 : BitVec 32 := 1#32
  let arg12 : BitVec 32 := Scf.iv c0_i32_327 c1_i32_329 k0_t26
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t27_loop : Scf.Loop 32 :=
  let c0_i32_340 : BitVec 32 := 0#32
  let c128_i32_341 : BitVec 32 := 128#32
  let v294 : BitVec 32 := Scalar.addi c0_i32_340 c128_i32_341
  let c1_i32_342 : BitVec 32 := 1#32
  ⟨c0_i32_340, v294, c1_i32_342⟩
def k0_off211 (k0_t27 : Fin k0_t27_loop.trips) : Fin 2 → Nat :=
  let c0_i32_415 : BitVec 32 := 0#32
  let c0_i32_340 : BitVec 32 := 0#32
  let c1_i32_342 : BitVec 32 := 1#32
  let arg12 : BitVec 32 := Scf.iv c0_i32_340 c1_i32_342 k0_t27
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off212 (k0_t27 : Fin k0_t27_loop.trips) : Fin 2 → Nat :=
  let c0_i32_415 : BitVec 32 := 0#32
  let c0_i32_340 : BitVec 32 := 0#32
  let c1_i32_342 : BitVec 32 := 1#32
  let arg12 : BitVec 32 := Scf.iv c0_i32_340 c1_i32_342 k0_t27
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off213 (k0_t27 : Fin k0_t27_loop.trips) : Fin 2 → Nat :=
  let c0_i32_415 : BitVec 32 := 0#32
  let c0_i32_340 : BitVec 32 := 0#32
  let c1_i32_342 : BitVec 32 := 1#32
  let arg12 : BitVec 32 := Scf.iv c0_i32_340 c1_i32_342 k0_t27
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off214 (k0_t27 : Fin k0_t27_loop.trips) : Fin 2 → Nat :=
  let c0_i32_415 : BitVec 32 := 0#32
  let c0_i32_340 : BitVec 32 := 0#32
  let c1_i32_342 : BitVec 32 := 1#32
  let arg12 : BitVec 32 := Scf.iv c0_i32_340 c1_i32_342 k0_t27
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off215 (k0_t27 : Fin k0_t27_loop.trips) : Fin 2 → Nat :=
  let c0_i32_415 : BitVec 32 := 0#32
  let c0_i32_340 : BitVec 32 := 0#32
  let c1_i32_342 : BitVec 32 := 1#32
  let arg12 : BitVec 32 := Scf.iv c0_i32_340 c1_i32_342 k0_t27
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off216 (k0_t27 : Fin k0_t27_loop.trips) : Fin 2 → Nat :=
  let c0_i32_415 : BitVec 32 := 0#32
  let c0_i32_340 : BitVec 32 := 0#32
  let c1_i32_342 : BitVec 32 := 1#32
  let arg12 : BitVec 32 := Scf.iv c0_i32_340 c1_i32_342 k0_t27
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off217 (k0_t27 : Fin k0_t27_loop.trips) : Fin 2 → Nat :=
  let c0_i32_415 : BitVec 32 := 0#32
  let c0_i32_340 : BitVec 32 := 0#32
  let c1_i32_342 : BitVec 32 := 1#32
  let arg12 : BitVec 32 := Scf.iv c0_i32_340 c1_i32_342 k0_t27
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off218 (k0_t27 : Fin k0_t27_loop.trips) : Fin 2 → Nat :=
  let c0_i32_415 : BitVec 32 := 0#32
  let c0_i32_340 : BitVec 32 := 0#32
  let c1_i32_342 : BitVec 32 := 1#32
  let arg12 : BitVec 32 := Scf.iv c0_i32_340 c1_i32_342 k0_t27
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t28_loop : Scf.Loop 32 :=
  let c0_i32_353 : BitVec 32 := 0#32
  let c128_i32_354 : BitVec 32 := 128#32
  let v305 : BitVec 32 := Scalar.addi c0_i32_353 c128_i32_354
  let c1_i32_355 : BitVec 32 := 1#32
  ⟨c0_i32_353, v305, c1_i32_355⟩
def k0_off219 (k0_t28 : Fin k0_t28_loop.trips) : Fin 2 → Nat :=
  let c0_i32_415 : BitVec 32 := 0#32
  let c0_i32_353 : BitVec 32 := 0#32
  let c1_i32_355 : BitVec 32 := 1#32
  let arg12 : BitVec 32 := Scf.iv c0_i32_353 c1_i32_355 k0_t28
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off220 (k0_t28 : Fin k0_t28_loop.trips) : Fin 2 → Nat :=
  let c0_i32_415 : BitVec 32 := 0#32
  let c0_i32_353 : BitVec 32 := 0#32
  let c1_i32_355 : BitVec 32 := 1#32
  let arg12 : BitVec 32 := Scf.iv c0_i32_353 c1_i32_355 k0_t28
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off221 (k0_t28 : Fin k0_t28_loop.trips) : Fin 2 → Nat :=
  let c0_i32_415 : BitVec 32 := 0#32
  let c0_i32_353 : BitVec 32 := 0#32
  let c1_i32_355 : BitVec 32 := 1#32
  let arg12 : BitVec 32 := Scf.iv c0_i32_353 c1_i32_355 k0_t28
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off222 (k0_t28 : Fin k0_t28_loop.trips) : Fin 2 → Nat :=
  let c0_i32_415 : BitVec 32 := 0#32
  let c0_i32_353 : BitVec 32 := 0#32
  let c1_i32_355 : BitVec 32 := 1#32
  let arg12 : BitVec 32 := Scf.iv c0_i32_353 c1_i32_355 k0_t28
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off223 (k0_t28 : Fin k0_t28_loop.trips) : Fin 2 → Nat :=
  let c0_i32_415 : BitVec 32 := 0#32
  let c0_i32_353 : BitVec 32 := 0#32
  let c1_i32_355 : BitVec 32 := 1#32
  let arg12 : BitVec 32 := Scf.iv c0_i32_353 c1_i32_355 k0_t28
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off224 (k0_t28 : Fin k0_t28_loop.trips) : Fin 2 → Nat :=
  let c0_i32_415 : BitVec 32 := 0#32
  let c0_i32_353 : BitVec 32 := 0#32
  let c1_i32_355 : BitVec 32 := 1#32
  let arg12 : BitVec 32 := Scf.iv c0_i32_353 c1_i32_355 k0_t28
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off225 (k0_t28 : Fin k0_t28_loop.trips) : Fin 2 → Nat :=
  let c0_i32_415 : BitVec 32 := 0#32
  let c0_i32_353 : BitVec 32 := 0#32
  let c1_i32_355 : BitVec 32 := 1#32
  let arg12 : BitVec 32 := Scf.iv c0_i32_353 c1_i32_355 k0_t28
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off226 (k0_t28 : Fin k0_t28_loop.trips) : Fin 2 → Nat :=
  let c0_i32_415 : BitVec 32 := 0#32
  let c0_i32_353 : BitVec 32 := 0#32
  let c1_i32_355 : BitVec 32 := 1#32
  let arg12 : BitVec 32 := Scf.iv c0_i32_353 c1_i32_355 k0_t28
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t29_loop : Scf.Loop 32 :=
  let c0_i32_366 : BitVec 32 := 0#32
  let c128_i32_367 : BitVec 32 := 128#32
  let v316 : BitVec 32 := Scalar.addi c0_i32_366 c128_i32_367
  let c1_i32_368 : BitVec 32 := 1#32
  ⟨c0_i32_366, v316, c1_i32_368⟩
def k0_off227 (k0_t29 : Fin k0_t29_loop.trips) : Fin 2 → Nat :=
  let c0_i32_415 : BitVec 32 := 0#32
  let c0_i32_366 : BitVec 32 := 0#32
  let c1_i32_368 : BitVec 32 := 1#32
  let arg12 : BitVec 32 := Scf.iv c0_i32_366 c1_i32_368 k0_t29
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off228 (k0_t29 : Fin k0_t29_loop.trips) : Fin 2 → Nat :=
  let c0_i32_415 : BitVec 32 := 0#32
  let c0_i32_366 : BitVec 32 := 0#32
  let c1_i32_368 : BitVec 32 := 1#32
  let arg12 : BitVec 32 := Scf.iv c0_i32_366 c1_i32_368 k0_t29
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off229 (k0_t29 : Fin k0_t29_loop.trips) : Fin 2 → Nat :=
  let c0_i32_415 : BitVec 32 := 0#32
  let c0_i32_366 : BitVec 32 := 0#32
  let c1_i32_368 : BitVec 32 := 1#32
  let arg12 : BitVec 32 := Scf.iv c0_i32_366 c1_i32_368 k0_t29
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off230 (k0_t29 : Fin k0_t29_loop.trips) : Fin 2 → Nat :=
  let c0_i32_415 : BitVec 32 := 0#32
  let c0_i32_366 : BitVec 32 := 0#32
  let c1_i32_368 : BitVec 32 := 1#32
  let arg12 : BitVec 32 := Scf.iv c0_i32_366 c1_i32_368 k0_t29
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off231 (k0_t29 : Fin k0_t29_loop.trips) : Fin 2 → Nat :=
  let c0_i32_415 : BitVec 32 := 0#32
  let c0_i32_366 : BitVec 32 := 0#32
  let c1_i32_368 : BitVec 32 := 1#32
  let arg12 : BitVec 32 := Scf.iv c0_i32_366 c1_i32_368 k0_t29
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off232 (k0_t29 : Fin k0_t29_loop.trips) : Fin 2 → Nat :=
  let c0_i32_415 : BitVec 32 := 0#32
  let c0_i32_366 : BitVec 32 := 0#32
  let c1_i32_368 : BitVec 32 := 1#32
  let arg12 : BitVec 32 := Scf.iv c0_i32_366 c1_i32_368 k0_t29
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off233 (k0_t29 : Fin k0_t29_loop.trips) : Fin 2 → Nat :=
  let c0_i32_415 : BitVec 32 := 0#32
  let c0_i32_366 : BitVec 32 := 0#32
  let c1_i32_368 : BitVec 32 := 1#32
  let arg12 : BitVec 32 := Scf.iv c0_i32_366 c1_i32_368 k0_t29
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off234 (k0_t29 : Fin k0_t29_loop.trips) : Fin 2 → Nat :=
  let c0_i32_415 : BitVec 32 := 0#32
  let c0_i32_366 : BitVec 32 := 0#32
  let c1_i32_368 : BitVec 32 := 1#32
  let arg12 : BitVec 32 := Scf.iv c0_i32_366 c1_i32_368 k0_t29
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t30_loop : Scf.Loop 32 :=
  let c0_i32_379 : BitVec 32 := 0#32
  let c128_i32_380 : BitVec 32 := 128#32
  let v327 : BitVec 32 := Scalar.addi c0_i32_379 c128_i32_380
  let c1_i32_381 : BitVec 32 := 1#32
  ⟨c0_i32_379, v327, c1_i32_381⟩
def k0_off235 (k0_t30 : Fin k0_t30_loop.trips) : Fin 2 → Nat :=
  let c0_i32_415 : BitVec 32 := 0#32
  let c0_i32_379 : BitVec 32 := 0#32
  let c1_i32_381 : BitVec 32 := 1#32
  let arg12 : BitVec 32 := Scf.iv c0_i32_379 c1_i32_381 k0_t30
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off236 (k0_t30 : Fin k0_t30_loop.trips) : Fin 2 → Nat :=
  let c0_i32_415 : BitVec 32 := 0#32
  let c0_i32_379 : BitVec 32 := 0#32
  let c1_i32_381 : BitVec 32 := 1#32
  let arg12 : BitVec 32 := Scf.iv c0_i32_379 c1_i32_381 k0_t30
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off237 (k0_t30 : Fin k0_t30_loop.trips) : Fin 2 → Nat :=
  let c0_i32_415 : BitVec 32 := 0#32
  let c0_i32_379 : BitVec 32 := 0#32
  let c1_i32_381 : BitVec 32 := 1#32
  let arg12 : BitVec 32 := Scf.iv c0_i32_379 c1_i32_381 k0_t30
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off238 (k0_t30 : Fin k0_t30_loop.trips) : Fin 2 → Nat :=
  let c0_i32_415 : BitVec 32 := 0#32
  let c0_i32_379 : BitVec 32 := 0#32
  let c1_i32_381 : BitVec 32 := 1#32
  let arg12 : BitVec 32 := Scf.iv c0_i32_379 c1_i32_381 k0_t30
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off239 (k0_t30 : Fin k0_t30_loop.trips) : Fin 2 → Nat :=
  let c0_i32_415 : BitVec 32 := 0#32
  let c0_i32_379 : BitVec 32 := 0#32
  let c1_i32_381 : BitVec 32 := 1#32
  let arg12 : BitVec 32 := Scf.iv c0_i32_379 c1_i32_381 k0_t30
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off240 (k0_t30 : Fin k0_t30_loop.trips) : Fin 2 → Nat :=
  let c0_i32_415 : BitVec 32 := 0#32
  let c0_i32_379 : BitVec 32 := 0#32
  let c1_i32_381 : BitVec 32 := 1#32
  let arg12 : BitVec 32 := Scf.iv c0_i32_379 c1_i32_381 k0_t30
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off241 (k0_t30 : Fin k0_t30_loop.trips) : Fin 2 → Nat :=
  let c0_i32_415 : BitVec 32 := 0#32
  let c0_i32_379 : BitVec 32 := 0#32
  let c1_i32_381 : BitVec 32 := 1#32
  let arg12 : BitVec 32 := Scf.iv c0_i32_379 c1_i32_381 k0_t30
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off242 (k0_t30 : Fin k0_t30_loop.trips) : Fin 2 → Nat :=
  let c0_i32_415 : BitVec 32 := 0#32
  let c0_i32_379 : BitVec 32 := 0#32
  let c1_i32_381 : BitVec 32 := 1#32
  let arg12 : BitVec 32 := Scf.iv c0_i32_379 c1_i32_381 k0_t30
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t31_loop : Scf.Loop 32 :=
  let c0_i32_392 : BitVec 32 := 0#32
  let c128_i32_393 : BitVec 32 := 128#32
  let v338 : BitVec 32 := Scalar.addi c0_i32_392 c128_i32_393
  let c1_i32_394 : BitVec 32 := 1#32
  ⟨c0_i32_392, v338, c1_i32_394⟩
def k0_off243 (k0_t31 : Fin k0_t31_loop.trips) : Fin 2 → Nat :=
  let c0_i32_415 : BitVec 32 := 0#32
  let c0_i32_392 : BitVec 32 := 0#32
  let c1_i32_394 : BitVec 32 := 1#32
  let arg12 : BitVec 32 := Scf.iv c0_i32_392 c1_i32_394 k0_t31
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off244 (k0_t31 : Fin k0_t31_loop.trips) : Fin 2 → Nat :=
  let c0_i32_415 : BitVec 32 := 0#32
  let c0_i32_392 : BitVec 32 := 0#32
  let c1_i32_394 : BitVec 32 := 1#32
  let arg12 : BitVec 32 := Scf.iv c0_i32_392 c1_i32_394 k0_t31
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off245 (k0_t31 : Fin k0_t31_loop.trips) : Fin 2 → Nat :=
  let c0_i32_415 : BitVec 32 := 0#32
  let c0_i32_392 : BitVec 32 := 0#32
  let c1_i32_394 : BitVec 32 := 1#32
  let arg12 : BitVec 32 := Scf.iv c0_i32_392 c1_i32_394 k0_t31
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off246 (k0_t31 : Fin k0_t31_loop.trips) : Fin 2 → Nat :=
  let c0_i32_415 : BitVec 32 := 0#32
  let c0_i32_392 : BitVec 32 := 0#32
  let c1_i32_394 : BitVec 32 := 1#32
  let arg12 : BitVec 32 := Scf.iv c0_i32_392 c1_i32_394 k0_t31
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off247 (k0_t31 : Fin k0_t31_loop.trips) : Fin 2 → Nat :=
  let c0_i32_415 : BitVec 32 := 0#32
  let c0_i32_392 : BitVec 32 := 0#32
  let c1_i32_394 : BitVec 32 := 1#32
  let arg12 : BitVec 32 := Scf.iv c0_i32_392 c1_i32_394 k0_t31
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off248 (k0_t31 : Fin k0_t31_loop.trips) : Fin 2 → Nat :=
  let c0_i32_415 : BitVec 32 := 0#32
  let c0_i32_392 : BitVec 32 := 0#32
  let c1_i32_394 : BitVec 32 := 1#32
  let arg12 : BitVec 32 := Scf.iv c0_i32_392 c1_i32_394 k0_t31
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off249 (k0_t31 : Fin k0_t31_loop.trips) : Fin 2 → Nat :=
  let c0_i32_415 : BitVec 32 := 0#32
  let c0_i32_392 : BitVec 32 := 0#32
  let c1_i32_394 : BitVec 32 := 1#32
  let arg12 : BitVec 32 := Scf.iv c0_i32_392 c1_i32_394 k0_t31
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off250 (k0_t31 : Fin k0_t31_loop.trips) : Fin 2 → Nat :=
  let c0_i32_415 : BitVec 32 := 0#32
  let c0_i32_392 : BitVec 32 := 0#32
  let c1_i32_394 : BitVec 32 := 1#32
  let arg12 : BitVec 32 := Scf.iv c0_i32_392 c1_i32_394 k0_t31
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
@[reducible] def k0_t32_loop : Scf.Loop 32 :=
  let c0_i32_403 : BitVec 32 := 0#32
  let c128_i32_404 : BitVec 32 := 128#32
  let v346 : BitVec 32 := Scalar.addi c0_i32_403 c128_i32_404
  let c1_i32_405 : BitVec 32 := 1#32
  ⟨c0_i32_403, v346, c1_i32_405⟩
def k0_off251 (k0_t32 : Fin k0_t32_loop.trips) : Fin 2 → Nat :=
  let c0_i32_415 : BitVec 32 := 0#32
  let c0_i32_403 : BitVec 32 := 0#32
  let c1_i32_405 : BitVec 32 := 1#32
  let arg12 : BitVec 32 := Scf.iv c0_i32_403 c1_i32_405 k0_t32
  let c1_i32_414 : BitVec 32 := 1#32
  let v354 : BitVec 32 := Scalar.muli arg12 c1_i32_414
  let v355 : BitVec 32 := Scalar.addi c0_i32_415 v354
  let v356 : Index := Scalar.indexCast v355
  let c0 : Index := 0#32
  ![v356.toNat, 0]
def k0_off252 (k0_t32 : Fin k0_t32_loop.trips) : Fin 2 → Nat :=
  let c0_i32_415 : BitVec 32 := 0#32
  let c0_i32_403 : BitVec 32 := 0#32
  let c1_i32_405 : BitVec 32 := 1#32
  let arg12 : BitVec 32 := Scf.iv c0_i32_403 c1_i32_405 k0_t32
  let c1_i32_414 : BitVec 32 := 1#32
  let v354 : BitVec 32 := Scalar.muli arg12 c1_i32_414
  let v355 : BitVec 32 := Scalar.addi c0_i32_415 v354
  let v358 : Index := Scalar.indexCast v355
  let c16 : Index := 16#32
  ![v358.toNat, 16]
def k0_off253 (k0_t32 : Fin k0_t32_loop.trips) : Fin 2 → Nat :=
  let c0_i32_415 : BitVec 32 := 0#32
  let c0_i32_403 : BitVec 32 := 0#32
  let c1_i32_405 : BitVec 32 := 1#32
  let arg12 : BitVec 32 := Scf.iv c0_i32_403 c1_i32_405 k0_t32
  let c1_i32_414 : BitVec 32 := 1#32
  let v354 : BitVec 32 := Scalar.muli arg12 c1_i32_414
  let v355 : BitVec 32 := Scalar.addi c0_i32_415 v354
  let v360 : Index := Scalar.indexCast v355
  let c32 : Index := 32#32
  ![v360.toNat, 32]
def k0_off254 (k0_t32 : Fin k0_t32_loop.trips) : Fin 2 → Nat :=
  let c0_i32_415 : BitVec 32 := 0#32
  let c0_i32_403 : BitVec 32 := 0#32
  let c1_i32_405 : BitVec 32 := 1#32
  let arg12 : BitVec 32 := Scf.iv c0_i32_403 c1_i32_405 k0_t32
  let c1_i32_414 : BitVec 32 := 1#32
  let v354 : BitVec 32 := Scalar.muli arg12 c1_i32_414
  let v355 : BitVec 32 := Scalar.addi c0_i32_415 v354
  let v362 : Index := Scalar.indexCast v355
  let c48 : Index := 48#32
  ![v362.toNat, 48]
def k0_off255 (k0_t32 : Fin k0_t32_loop.trips) : Fin 2 → Nat :=
  let c0_i32_415 : BitVec 32 := 0#32
  let c0_i32_403 : BitVec 32 := 0#32
  let c1_i32_405 : BitVec 32 := 1#32
  let arg12 : BitVec 32 := Scf.iv c0_i32_403 c1_i32_405 k0_t32
  let c1_i32_414 : BitVec 32 := 1#32
  let v354 : BitVec 32 := Scalar.muli arg12 c1_i32_414
  let v355 : BitVec 32 := Scalar.addi c0_i32_415 v354
  let v364 : Index := Scalar.indexCast v355
  let c64 : Index := 64#32
  ![v364.toNat, 64]
def k0_off256 (k0_t32 : Fin k0_t32_loop.trips) : Fin 2 → Nat :=
  let c0_i32_415 : BitVec 32 := 0#32
  let c0_i32_403 : BitVec 32 := 0#32
  let c1_i32_405 : BitVec 32 := 1#32
  let arg12 : BitVec 32 := Scf.iv c0_i32_403 c1_i32_405 k0_t32
  let c1_i32_414 : BitVec 32 := 1#32
  let v354 : BitVec 32 := Scalar.muli arg12 c1_i32_414
  let v355 : BitVec 32 := Scalar.addi c0_i32_415 v354
  let v366 : Index := Scalar.indexCast v355
  let c80 : Index := 80#32
  ![v366.toNat, 80]
def k0_off257 (k0_t32 : Fin k0_t32_loop.trips) : Fin 2 → Nat :=
  let c0_i32_415 : BitVec 32 := 0#32
  let c0_i32_403 : BitVec 32 := 0#32
  let c1_i32_405 : BitVec 32 := 1#32
  let arg12 : BitVec 32 := Scf.iv c0_i32_403 c1_i32_405 k0_t32
  let c1_i32_414 : BitVec 32 := 1#32
  let v354 : BitVec 32 := Scalar.muli arg12 c1_i32_414
  let v355 : BitVec 32 := Scalar.addi c0_i32_415 v354
  let v368 : Index := Scalar.indexCast v355
  let c96 : Index := 96#32
  ![v368.toNat, 96]
def k0_off258 (k0_t32 : Fin k0_t32_loop.trips) : Fin 2 → Nat :=
  let c0_i32_415 : BitVec 32 := 0#32
  let c0_i32_403 : BitVec 32 := 0#32
  let c1_i32_405 : BitVec 32 := 1#32
  let arg12 : BitVec 32 := Scf.iv c0_i32_403 c1_i32_405 k0_t32
  let c1_i32_414 : BitVec 32 := 1#32
  let v354 : BitVec 32 := Scalar.muli arg12 c1_i32_414
  let v355 : BitVec 32 := Scalar.addi c0_i32_415 v354
  let v370 : Index := Scalar.indexCast v355
  let c112 : Index := 112#32
  ![v370.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x128 : Shape := ⟨2, ![131072, 128]⟩
abbrev S131072x16 : Shape := ⟨2, ![131072, 16]⟩
abbrev S131072x1 : Shape := ⟨2, ![131072, 1]⟩
abbrev S131072 : Shape := ⟨1, ![131072]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x16, .f32⟩
  | .hbm, ⟨2, _⟩ => ⟨S131072x16, .i32⟩
  | .hbm, ⟨3, _⟩ => ⟨S131072x1, .f32⟩
  | .hbm, ⟨4, _⟩ => ⟨S131072, .f32⟩
  | .hbm, ⟨5, _⟩ => ⟨S131072x1, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S_, .f32⟩
  | .hbm, ⟨10, _⟩ => ⟨S131072x128, .f32⟩
  | .hbm, ⟨11, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Prob.lean ====
abbrev S1024x512 : Shape := ⟨2, ![1024, 512]⟩
abbrev S16x512 : Shape := ⟨2, ![16, 512]⟩
abbrev S16 : Shape := ⟨1, ![16]⟩
abbrev S16384x16 : Shape := ⟨2, ![16384, 16]⟩
abbrev S16384 : Shape := ⟨1, ![16384]⟩
abbrev S512x16 : Shape := ⟨2, ![512, 16]⟩
abbrev S1x16 : Shape := ⟨2, ![1, 16]⟩
abbrev S16x16384 : Shape := ⟨2, ![16, 16384]⟩
abbrev S128x128 : Shape := ⟨2, ![128, 128]⟩
abbrev S1024x128x128 : Shape := ⟨3, ![1024, 128, 128]⟩
abbrev S128x512 : Shape := ⟨2, ![128, 512]⟩
abbrev S128x128x128 : Shape := ⟨3, ![128, 128, 128]⟩
abbrev S128x16 : Shape := ⟨2, ![128, 16]⟩
abbrev S128x16384 : Shape := ⟨2, ![128, 16384]⟩
abbrev S1x128x128 : Shape := ⟨3, ![1, 128, 128]⟩
abbrev S128x1x128 : Shape := ⟨3, ![128, 1, 128]⟩

abbrev nBuf : Space → Nat
  | .hbm => 26
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S16x512, .f32⟩
  | .hbm, ⟨2, _⟩ => ⟨S16x512, .f32⟩
  | .hbm, ⟨3, _⟩ => ⟨S16, .f32⟩
  | .hbm, ⟨4, _⟩ => ⟨S16, .f32⟩
  | .hbm, ⟨5, _⟩ => ⟨S16384x16, .f32⟩
  | .hbm, ⟨6, _⟩ => ⟨S16384x16, .f32⟩
  | .hbm, ⟨7, _⟩ => ⟨S16384, .f32⟩
  | .hbm, ⟨8, _⟩ => ⟨S16384, .f32⟩
  | .hbm, ⟨9, _⟩ => ⟨S16x512, .f32⟩
  | .hbm, ⟨10, _⟩ => ⟨S16, .f32⟩
  | .hbm, ⟨11, _⟩ => ⟨S16384x16, .f32⟩
  | .hbm, ⟨12, _⟩ => ⟨S16384, .f32⟩
  | .hbm, ⟨13, _⟩ => ⟨S512x16, .f32⟩
  | .hbm, ⟨14, _⟩ => ⟨S512x16, .f32⟩
  | .hbm, ⟨15, _⟩ => ⟨S1x16, .f32⟩
  | .hbm, ⟨16, _⟩ => ⟨S1x16, .f32⟩
  | .hbm, ⟨17, _⟩ => ⟨S16x16384, .f32⟩
  | .hbm, ⟨18, _⟩ => ⟨S16x16384, .f32⟩
  | .hbm, ⟨19, _⟩ => ⟨S128x128, .f32⟩
  | .hbm, ⟨20, _⟩ => ⟨S128x128, .f32⟩
  | .hbm, ⟨21, _⟩ => ⟨S512x16, .f32⟩
  | .hbm, ⟨22, _⟩ => ⟨S1x16, .f32⟩
  | .hbm, ⟨23, _⟩ => ⟨S16x16384, .f32⟩
  | .hbm, ⟨24, _⟩ => ⟨S128x128, .f32⟩
  | .hbm, ⟨25, _⟩ => ⟨S1024x128x128, .f32⟩
  | .local _ .vmem, ⟨0, _⟩ => ⟨S128x512, .f32⟩
  | .local _ .vmem, ⟨1, _⟩ => ⟨S128x512, .f32⟩
  | .local _ .vmem, ⟨2, _⟩ => ⟨S512x16, .f32⟩
  | .local _ .vmem, ⟨3, _⟩ => ⟨S512x16, .f32⟩
  | .local _ .vmem, ⟨4, _⟩ => ⟨S1x16, .f32⟩
  | .local _ .vmem, ⟨5, _⟩ => ⟨S1x16, .f32⟩
  | .local _ .vmem, ⟨6, _⟩ => ⟨S16x16384, .f32⟩
  | .local _ .vmem, ⟨7, _⟩ => ⟨S16x16384, .f32⟩
  | .local _ .vmem, ⟨8, _⟩ => ⟨S128x128, .f32⟩
  | .local _ .vmem, ⟨9, _⟩ => ⟨S128x128, .f32⟩
  | .local _ .vmem, ⟨10, _⟩ => ⟨S512x16, .f32⟩
  | .local _ .vmem, ⟨11, _⟩ => ⟨S1x16, .f32⟩
  | .local _ .vmem, ⟨12, _⟩ => ⟨S16x16384, .f32⟩
  | .local _ .vmem, ⟨13, _⟩ => ⟨S128x128, .f32⟩
  | .local _ .vmem, ⟨14, _⟩ => ⟨S128x128x128, .f32⟩
  | .local _ .vmem, ⟨15, _⟩ => ⟨S128x128x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x16384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProbReferenceIdeal.lean ====
abbrev S1024x512 : Shape := ⟨2, ![1024, 512]⟩
abbrev S16x512 : Shape := ⟨2, ![16, 512]⟩
abbrev S16 : Shape := ⟨1, ![16]⟩
abbrev S16384x16 : Shape := ⟨2, ![16384, 16]⟩
abbrev S16384 : Shape := ⟨1, ![16384]⟩
abbrev S_ : Shape := ⟨0, ![]⟩
abbrev S512x16 : Shape := ⟨2, ![512, 16]⟩
abbrev S1024x16 : Shape := ⟨2, ![1024, 16]⟩
abbrev S1x16 : Shape := ⟨2, ![1, 16]⟩
abbrev S16x16384 : Shape := ⟨2, ![16, 16384]⟩
abbrev S1024x16384 : Shape := ⟨2, ![1024, 16384]⟩
abbrev S1x16384 : Shape := ⟨2, ![1, 16384]⟩
abbrev S1024x128x128 : Shape := ⟨3, ![1024, 128, 128]⟩
abbrev S1024x128 : Shape := ⟨2, ![1024, 128]⟩
abbrev S1024x1x128 : Shape := ⟨3, ![1024, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S16x512, .f32⟩
  | .hbm, ⟨2, _⟩ => ⟨S16x512, .f32⟩
  | .hbm, ⟨3, _⟩ => ⟨S16, .f32⟩
  | .hbm, ⟨4, _⟩ => ⟨S16, .f32⟩
  | .hbm, ⟨5, _⟩ => ⟨S16384x16, .f32⟩
  | .hbm, ⟨6, _⟩ => ⟨S16384x16, .f32⟩
  | .hbm, ⟨7, _⟩ => ⟨S16384, .f32⟩
  | .hbm, ⟨8, _⟩ => ⟨S16384, .f32⟩
  | .hbm, ⟨9, _⟩ => ⟨S16x512, .f32⟩
  | .hbm, ⟨10, _⟩ => ⟨S16, .f32⟩
  | .hbm, ⟨11, _⟩ => ⟨S16384x16, .f32⟩
  | .hbm, ⟨12, _⟩ => ⟨S16384, .f32⟩
  | .hbm, ⟨13, _⟩ => ⟨S16x512, .f32⟩
  | .hbm, ⟨14, _⟩ => ⟨S_, .f32⟩
  | .hbm, ⟨15, _⟩ => ⟨S16x512, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S16x512, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S512x16, .f32⟩
  | .hbm, ⟨28, _⟩ => ⟨S1024x16, .f32⟩
  | .hbm, ⟨29, _⟩ => ⟨S1x16, .f32⟩
  | .hbm, ⟨30, _⟩ => ⟨S1024x16, .f32⟩
  | .hbm, ⟨31, _⟩ => ⟨S1024x16, .f32⟩
  | .hbm, ⟨32, _⟩ => ⟨S_, .f32⟩
  | .hbm, ⟨33, _⟩ => ⟨S1024x16, .f32⟩
  | .hbm, ⟨34, _⟩ => ⟨S1024x16, .f32⟩
  | .hbm, ⟨35, _⟩ => ⟨S16384x16, .f32⟩
  | .hbm, ⟨36, _⟩ => ⟨S_, .f32⟩
  | .hbm, ⟨37, _⟩ => ⟨S16384x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S16x16384, .f32⟩
  | .hbm, ⟨50, _⟩ => ⟨S1024x16384, .f32⟩
  | .hbm, ⟨51, _⟩ => ⟨S1x16384, .f32⟩
  | .hbm, ⟨52, _⟩ => ⟨S1024x16384, .f32⟩
  | .hbm, ⟨53, _⟩ => ⟨S1024x16384, .f32⟩
  | .hbm, ⟨54, _⟩ => ⟨S_, .f32⟩
  | .hbm, ⟨55, _⟩ => ⟨S1024x16384, .f32⟩
  | .hbm, ⟨56, _⟩ => ⟨S1024x16384, .f32⟩
  | .hbm, ⟨57, _⟩ => ⟨S1024x128x128, .f32⟩
  | .hbm, ⟨58, _⟩ => ⟨S_, .f32⟩
  | .hbm, ⟨59, _⟩ => ⟨S1024x128, .f32⟩
  | .hbm, ⟨60, _⟩ => ⟨S_, .f32⟩
  | .hbm, ⟨61, _⟩ => ⟨S1024x128, .f32⟩
  | .hbm, ⟨62, _⟩ => ⟨S1024x128, .f32⟩
  | .hbm, ⟨63, _⟩ => ⟨S1024x1x128, .f32⟩
  | .hbm, ⟨64, _⟩ => ⟨S1024x128x128, .f32⟩
  | .hbm, ⟨65, _⟩ => ⟨S1024x128x128, .f32⟩
  | .hbm, ⟨66, _⟩ => ⟨S1024x128x128, .f32⟩
  | .hbm, ⟨67, _⟩ => ⟨S_, .f32⟩
  | .hbm, ⟨68, _⟩ => ⟨S1024x128, .f32⟩
  | .hbm, ⟨69, _⟩ => ⟨S1024x1x128, .f32⟩
  | .hbm, ⟨70, _⟩ => ⟨S1024x128x128, .f32⟩
  | .hbm, ⟨71, _⟩ => ⟨S1024x128x128, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Pure.lean ====
module

public import Idealize.ShloMosaic.PureOps
public import Idealize.ShloMosaic.Lib.ValueIdxCore

/-!
# The row's threshold, as a function

The pure operations one pass of the row loop applies to the eight groups of sixteen values it loads,
as functions of those groups: the rank sort of a group, up or down, the merge of two sorted groups,
the threshold of the row and the mask of one group.
-/

@[expose] public section

noncomputable section

namespace Cert.Topk

open Idealize.ShloMosaic

abbrev G16 : Shape := ⟨1, ![16]⟩
abbrev G8 : Shape := ⟨1, ![8]⟩
abbrev G4 : Shape := ⟨1, ![4]⟩
abbrev G2 : Shape := ⟨1, ![2]⟩
abbrev G1 : Shape := ⟨1, ![1]⟩
abbrev Col : Shape := ⟨2, ![16, 1]⟩
abbrev Q1 : Shape := ⟨2, ![1, 16]⟩
abbrev Q2 : Shape := ⟨2, ![2, 16]⟩
abbrev Q4 : Shape := ⟨2, ![4, 16]⟩
abbrev Q8 : Shape := ⟨2, ![8, 16]⟩
abbrev Q16 : Shape := ⟨2, ![16, 16]⟩

variable {F : FTy → Type} [FloatOps F]

/-- Entry `(i, k)` is `v i`. -/
def asRows {α : Type} (v : G16.Idx → α) : Q16.Idx → α :=
  broadcastTo Q16 (shapeCast Col v (by decide)) (by decide)

/-- Entry `(i, k)` is `v k`. -/
def asCols {α : Type} (v : G16.Idx → α) : Q16.Idx → α :=
  broadcastTo Q16 (shapeCast Q1 v (by decide)) (by decide)

/-- Sixteen rows folded to one by halves, under `op` of two arrays of one shape. -/
def foldRows {α : Type} (op : ∀ {s : Shape}, (s.Idx → α) → (s.Idx → α) → (s.Idx → α)) (x : Q16.Idx → α) : G16.Idx → α :=
  let a : Q8.Idx → α := op (extractStridedSlice Q8 ![0, 0] x (by decide)) (extractStridedSlice Q8 ![8, 0] x (by decide))
  let b : Q4.Idx → α := op (extractStridedSlice Q4 ![0, 0] a (by decide)) (extractStridedSlice Q4 ![4, 0] a (by decide))
  let c : Q2.Idx → α := op (extractStridedSlice Q2 ![0, 0] b (by decide)) (extractStridedSlice Q2 ![2, 0] b (by decide))
  let d : Q1.Idx → α := op (extractStridedSlice Q1 ![0, 0] c (by decide)) (extractStridedSlice Q1 ![1, 0] c (by decide))
  shapeCast G16 d (by decide)

/-- Sixteen values folded to one by halves. -/
def foldGroup {α : Type} (op : ∀ {s : Shape}, (s.Idx → α) → (s.Idx → α) → (s.Idx → α)) (x : G16.Idx → α) : α :=
  let a : G8.Idx → α := op (extractStridedSlice G8 ![0] x (by decide)) (extractStridedSlice G8 ![8] x (by decide))
  let b : G4.Idx → α := op (extractStridedSlice G4 ![0] a (by decide)) (extractStridedSlice G4 ![4] a (by decide))
  let c : G2.Idx → α := op (extractStridedSlice G2 ![0] b (by decide)) (extractStridedSlice G2 ![2] b (by decide))
  let d : G1.Idx → α := op (extractStridedSlice G1 ![0] c (by decide)) (extractStridedSlice G1 ![1] c (by decide))
  extractAt ![0] d (by decide)

/-- The ranks: how many of the values come before each. -/
def ranks (p : CmpFPredicate) (v : FVec F G16 .f32) : IVec G16 32 :=
  foldRows addi (select (cmpf p (asRows v) (asCols v)) (broadcast Q16 1#32) (broadcast Q16 0#32))

/-- Entry `(i, k)` says that the rank of `i` is at most `k`. -/
def atMost (r : IVec G16 32) : IVec Q16 1 :=
  cmpi .sle (asRows r) (asCols (iota .scVector G16 32 [0] (by decide)))

/-- The group in ascending order. -/
def sortUp (v : FVec F G16 .f32) : FVec F G16 .f32 :=
  foldRows maximumf (select (atMost (ranks .olt v)) (asRows v) (broadcast Q16 (Scalar.ofBits .f32 0xFF800000#32)))

/-- The group in descending order. -/
def sortDown (v : FVec F G16 .f32) : FVec F G16 .f32 :=
  foldRows minimumf (select (atMost (ranks .ogt v)) (asRows v) (broadcast Q16 (Scalar.ofBits .f32 0x7F800000#32)))

/-- The sixteen greatest of an ascending and a descending group, ascending. -/
def mergeUp (a b : FVec F G16 .f32) : FVec F G16 .f32 := sortUp (maximumf a b)

/-- The sixteen greatest of an ascending and a descending group, descending. -/
def mergeDown (a b : FVec F G16 .f32) : FVec F G16 .f32 := sortDown (maximumf a b)

/-- The sixteen greatest of the eight groups of a row. -/
def top16 (g0 g1 g2 g3 g4 g5 g6 g7 : FVec F G16 .f32) : FVec F G16 .f32 :=
  maximumf
    (mergeUp (mergeUp (sortUp g0) (sortDown g1)) (mergeDown (sortUp g2) (sortDown g3)))
    (mergeDown (mergeUp (sortUp g4) (sortDown g5)) (mergeDown (sortUp g6) (sortDown g7)))

/-- The row's threshold: the least of its sixteen greatest. -/
def thr (g0 g1 g2 g3 g4 g5 g6 g7 : FVec F G16 .f32) : F .f32 :=
  foldGroup minimumf (top16 g0 g1 g2 g3 g4 g5 g6 g7)

/-- The mask of one group against a threshold. -/
def maskGroup (t : F .f32) (g : FVec F G16 .f32) : FVec F G16 .f32 :=
  select (cmpf .ogt g (broadcast G16 t)) (broadcast G16 (Scalar.ofBits .f32 0x3F800000#32))
    (broadcast G16 (Scalar.ofBits .f32 0x00000000#32))

/-- Group `k` of a row. -/
def grp {α : Type} (R : Fin 128 → α) (k : Fin 8) : G16.Idx → α :=
  fun q => R ⟨16 * k.val + (q 0).val, by have h : (q 0).val < 16 := (q 0).isLt; have := k.isLt; omega⟩

/-- The threshold of a row. -/
def thrRow (R : Fin 128 → F .f32) : F .f32 :=
  thr (grp R 0) (grp R 1) (grp R 2) (grp R 3) (grp R 4) (grp R 5) (grp R 6) (grp R 7)

/-- The mask of one value against a threshold. -/
def maskVal (t v : F .f32) : F .f32 :=
  Scalar.select (FloatOps.cmpf .ogt v t) (Scalar.ofBits .f32 0x3F800000#32) (Scalar.ofBits .f32 0x00000000#32)

theorem maskGroup_apply (t : F .f32) (g : FVec F G16 .f32) (q : G16.Idx) : maskGroup t g q = maskVal t (g q) := rfl

/-- The mask of an array of rows of 128 values. -/
def maskAt {n : Nat} (X : (⟨2, ![n, 128]⟩ : Shape).Idx → F .f32) (y : (⟨2, ![n, 128]⟩ : Shape).Idx) : F .f32 :=
  maskVal (thrRow fun j => X (ValueIdx.ix2 (y 0) j)) (X y)

end Cert.Topk
-- ==== Proof.KernelIdealProg.lean ====
module

public import proofs.«01_k».proof.KernelIdeal
public import proofs.«01_k».proof.Proof.Pure

/-!
# A vector subcore's work, chunk by chunk

A vector subcore masks 4096 rows of 128 entries, 128 rows at a time. It has two buffers for the operand's rows and two for the
mask's, and one semaphore with each. `tile` says its work with one chunk as the unit: the fetch of the next chunk is under way
while the present one is masked, and the copy of a chunk's mask is waited for two chunks later, when its buffer is wanted again.
-/

@[expose] public section
set_option maxRecDepth 16384
noncomputable section
namespace Cert.KernelIdeal.Topk
open Cert.KernelIdeal Cert.KernelIdeal.Facts₀ Cert.KernelIdeal.Facts
open Idealize.ShloMosaic Idealize.SL.Sem
open Cert.Topk

variable {F : FTy → Type} [FloatOps F] [Facts]

abbrev MV := Memref sig .scVector .vmem S128x128 .f32
abbrev MH := Memref sig .scVector .hbm S131072x128 .f32

abbrev TProg (F : FTy → Type) [FloatOps F] [Facts] (i : grid0.Coords) (α : Type) :=
  Prog (TpuEff nD τ sig (Elt F) Λ₀ (.scVector ((i 0).castLE hcore0) ((i 1).castLE hsub0))) α

def rd (a : MV) (off : Fin 2 → Nat) (h : ∀ q, off q + S1x16.size q ≤ S128x128.size q) (i : grid0.Coords) :
    TProg F i (Vec F S1x16 .f32) :=
  Prog.lift (.load a (Rect.unit (s := S128x128) off S1x16.size h).toLoadRect (View.loadsAt_vmem h_S1x16))

def wr (o : MV) (off : Fin 2 → Nat) (h : ∀ q, off q + S1x16.size q ≤ S128x128.size q) (v : FVec F S16 .f32) (i : grid0.Coords) :
    TProg F i PUnit := do
  let _ ← rd (F := F) o off h i
  Prog.lift (.store o (Rect.unit (s := S128x128) off S1x16.size h) (shapeCast S1x16 v shapeCasts_S16_S1x16) Finset.univ (View.stores_vmem_bits_univ h_S1x16 rfl) (.inl rfl))

def g16 (v : Vec F S1x16 .f32) : FVec F S16 .f32 := shapeCast S16 v shapeCasts_S1x16_S16

def row (i : grid0.Coords) (a o : MV) (t : Fin k0_t1_loop.trips) : TProg F i PUnit := do
  let l0 ← rd a (k0_off3 t) (k0_off3_inb t) i
  let l1 ← rd a (k0_off4 t) (k0_off4_inb t) i
  let l2 ← rd a (k0_off5 t) (k0_off5_inb t) i
  let l3 ← rd a (k0_off6 t) (k0_off6_inb t) i
  let l4 ← rd a (k0_off7 t) (k0_off7_inb t) i
  let l5 ← rd a (k0_off8 t) (k0_off8_inb t) i
  let l6 ← rd a (k0_off9 t) (k0_off9_inb t) i
  let l7 ← rd a (k0_off10 t) (k0_off10_inb t) i
  let θ := thr (g16 l0) (g16 l1) (g16 l2) (g16 l3) (g16 l4) (g16 l5) (g16 l6) (g16 l7)
  wr o (k0_off3 t) (k0_off3_inb t) (maskGroup θ (g16 l0)) i
  wr o (k0_off4 t) (k0_off4_inb t) (maskGroup θ (g16 l1)) i
  wr o (k0_off5 t) (k0_off5_inb t) (maskGroup θ (g16 l2)) i
  wr o (k0_off6 t) (k0_off6_inb t) (maskGroup θ (g16 l3)) i
  wr o (k0_off7 t) (k0_off7_inb t) (maskGroup θ (g16 l4)) i
  wr o (k0_off8 t) (k0_off8_inb t) (maskGroup θ (g16 l5)) i
  wr o (k0_off9 t) (k0_off9_inb t) (maskGroup θ (g16 l6)) i
  wr o (k0_off10 t) (k0_off10_inb t) (maskGroup θ (g16 l7)) i
  pure ⟨⟩

/-- The row loop of one chunk. -/
def rows (i : grid0.Coords) (a o : MV) : TProg F i PUnit :=
  Scf.Loop.for k0_t1_loop k0_t1_ok ⟨⟩ fun t _ => row i a o t

/-- The buffers and semaphores a tile works with, two of each. -/
structure Bufs where
  ins : Fin 2 → MV
  outs : Fin 2 → MV
  isem : Fin 2 → DmaSems sig S_
  osem : Fin 2 → DmaSems sig S_
  hins : ∀ b, (ins b).IsWhole
  houts : ∀ b, (outs b).IsWhole

/-- The buffer pair chunk `c` uses. -/
abbrev par (c : Nat) : Fin 2 := ⟨c % 2, Nat.mod_lt _ (by decide)⟩

/-- Chunk `c`'s offset in the operand, as the kernel computes it. -/
def xoff (i : grid0.Coords) : Nat → Fin 2 → Nat
  | 0 => k0_off1 i
  | c + 1 => k0_off2 i (BitVec.ofNat 32 (128 * (c + 1)))

theorem xoff_inb (i : grid0.Coords) : ∀ (c : Nat) (_ : c < 32), ∀ a, xoff i c a + S128x128.size a ≤ S131072x128.size a
  | 0, _ => k0_off1_inb i
  | c + 1, h => k0_off2_inb i ⟨c + 1, h⟩

/-- Chunk `c` of the operand. -/
abbrev xs (x : MH) (i : grid0.Coords) (c : Nat) (h : c < 32) : Memref sig .scVector .hbm S128x128 .f32 :=
  x.slice (Rect.unit (s := S131072x128) (xoff i c) S128x128.size (xoff_inb i c h)) (fun _ => rfl)

/-- Chunk `c` of the result. -/
abbrev ys (y : MH) (i : grid0.Coords) (c : Nat) (h : c < 32) : Memref sig .scVector .hbm S128x128 .f32 :=
  y.slice (Rect.unit (s := S131072x128) (k0_off2 i (BitVec.ofNat 32 (128 * c))) S128x128.size (k0_off2_inb i ⟨c, h⟩)) (fun _ => rfl)

variable (i : grid0.Coords) (x y : MH) (B : Bufs)

def fetch (c : Nat) (h : c < 32) : TProg F i PUnit :=
  Prog.lift (.enqueueDma (xs x i c h) (.here (B.ins (par c))) (.dma (B.isem (par c)).sem) (View.wordExact_bits rfl) (B.hins (par c)).wordExact ⟨Or.inl rfl, trivial⟩)

def fetched (c : Nat) (h : c < 32) : TProg F i PUnit :=
  Prog.lift (.waitDma2 (B.isem (par c)).sem (xs x i c h) (B.ins (par c)) (View.wordExact_bits rfl) (B.hins (par c)).wordExact)

def put (c : Nat) (h : c < 32) : TProg F i PUnit :=
  Prog.lift (.enqueueDma (B.outs (par c)) (.here (ys y i c h)) (.dma (B.osem (par c)).sem) (B.houts (par c)).wordExact (View.wordExact_bits rfl) ⟨Or.inl rfl, trivial⟩)

def putDone (c : Nat) (h : c < 32) : TProg F i PUnit :=
  Prog.lift (.waitDma2 (B.osem (par c)).sem (B.outs (par c)) (ys y i c h) (B.houts (par c)).wordExact (View.wordExact_bits rfl))

/-- What is left of the tile's work from chunk `c` on, `n` chunks of it. -/
def chunks : (n c : Nat) → c + n = 32 → TProg F i PUnit
  | 0, _, _ => do
    putDone i y B 30 (by decide)
    putDone i y B 31 (by decide)
    pure ⟨⟩
  | n + 1, c, h => do
    fetched i x B c (by omega)
    if h' : c + 1 < 32 then
      fetch i x B (c + 1) h'
      if 2 ≤ c then
        putDone i y B (c - 2) (by omega)
        rows i (B.ins (par c)) (B.outs (par c))
        put i y B c (by omega)
        chunks n (c + 1) (by omega)
      else
        rows i (B.ins (par c)) (B.outs (par c))
        put i y B c (by omega)
        chunks n (c + 1) (by omega)
    else
      putDone i y B (c - 2) (by omega)
      rows i (B.ins (par c)) (B.outs (par c))
      put i y B c (by omega)
      chunks n (c + 1) (by omega)

/-- The tile's work. -/
def tile : TProg F i PUnit := do
  fetch i x B 0 (by decide)
  chunks i x y B 32 0 rfl

end Cert.KernelIdeal.Topk
-- ==== Proof.KernelIdealRow.lean ====
module

public import proofs.«01_k».proof.Proof.KernelIdealProg
public import proofs.«01_k».proof.Proof.Gen.KernelIdeal
public import Idealize.ShloMosaic.Lib.SparseCore.Quiescent
public import Idealize.ShloMosaic.Lib.Pipeline.Kit
public import Idealize.ShloMosaic.Lib.Pipeline.Value
public import Idealize.ShloMosaic.Lib.Tactic

/-!
# One row, and the row loop of a chunk

A pass of the row loop reads the eight groups of row `t` of the in-buffer and writes the eight groups of the row's mask to
row `t` of the out-buffer; after all 128 passes the out-buffer reads as the mask of the in-buffer.
-/

@[expose] public section
noncomputable section
namespace Cert.KernelIdeal.Topk
open Cert.KernelIdeal Cert.KernelIdeal.Gen Cert.Topk

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type} [FloatOps F]

abbrev 𝒱₀ : Variants := Variants.none
abbrev UH : Type := URounds (GSem nD τ sig) ℕ
abbrev UU : Type := UH × Counters

local notation "𝕄" => MT nD τ sig (HIx 1) (Elt F) ℕ UU ℕ

variable (d : Dev nD) (i : grid0.Coords)

/-- The vector subcore at grid coordinates `i` of device `d`. -/
abbrev th : Thread nD τ := V d ((i 0).castLE hcore0) ((i 1).castLE hsub0)

/-- A buffer of the tile, held whole. -/
abbrev bufPts (a : MV) (f : Buf (Elt F) (a.view.loc (th d i))) : sProp 𝕄 :=
  a.view.loc (th d i) ↦[a.view.set]{fullShare} f

abbrev wpT {α : Type} (p : TProg F i α) (Q : α → sProp 𝕄) : sProp 𝕄 :=
  wp frame (wpE (defs₀ (F := F)) 𝒱₀ (th d i) none) Set.univ p Q

theorem trips_eq : k0_t1_loop.trips = 128 := by decide +kernel

theorem g16_read (a : MV) (f : Buf (Elt F) (a.view.loc (th d i))) (off : Fin 2 → Nat)
    (h : ∀ q, off q + S1x16.size q ≤ S128x128.size q) (t : Fin 128) (k : Fin 8) (e : off = ![t.val, 16 * k.val]) :
    g16 (F := F) (a.view.readAt (Elt F) (Rect.unit (s := S128x128) off S1x16.size h).toLoadRect f)
      = grp (fun j => a.view.read (Elt F) f (ix2 t j)) k := by
  subst e
  funext q
  refine (shapeCast_dropUnit_apply ![16] _ _ q).trans ?_
  rw [View.readAt_apply]
  refine congrArg (a.view.read (Elt F) f) (funext fun b => Fin.ext ?_)
  match b with
  | 0 => show t.val + 1 * 0 = t.val; omega
  | 1 => show 16 * k.val + 1 * (q 0).val = 16 * k.val + (q 0).val; omega

theorem rd_spec (a : MV) (f : Buf (Elt F) (a.view.loc (th d i))) (off : Fin 2 → Nat)
    (h : ∀ q, off q + S1x16.size q ≤ S128x128.size q) (Q : Vec F S1x16 .f32 → sProp 𝕄) :
    bufPts d i a f
      ⊢ iprop((bufPts d i a f -∗ Q (a.view.readAt (Elt F) (Rect.unit (s := S128x128) off S1x16.size h).toLoadRect f)) -∗ wpT d i (rd a off h i) Q) := by
  unfold rd
  iintro Ha HQ
  iapply (wp_load 𝒱₀ (th d i) none Set.univ (m := a) (S := a.view.set) (View.setOn_subset_set _ _)) $$ Ha
  iintro Ha
  iapply (le_wp_ret _ _ _ _ _)
  iapply HQ; iexact Ha

/-- The first `L` values of the out-buffer, in row-major order, are those of the mask of `X`. -/
def OutAt (o : MV) (X : S128x128.Idx → F .f32) (L : Nat) : sProp 𝕄 :=
  iprop(∃ f, ⌜∀ y : S128x128.Idx, 128 * (y 0).val + (y 1).val < L → o.view.read (Elt F) f y = maskAt X y⌝ ∗ bufPts d i o f)

theorem wr_spec (o : MV) (X : S128x128.Idx → F .f32) (off : Fin 2 → Nat)
    (h : ∀ q, off q + S1x16.size q ≤ S128x128.size q) (t : Fin 128) (k : Fin 8) (e : off = ![t.val, 16 * k.val])
    (L : Nat) (hL : L = 128 * t.val + 16 * k.val)
    (v : FVec F S16 .f32) (hv : v = maskGroup (thrRow fun j => X (ix2 t j)) (grp (fun j => X (ix2 t j)) k)) (Q : PUnit → sProp 𝕄) :
    OutAt d i o X L ⊢ iprop((OutAt d i o X (L + 16) -∗ Q ⟨⟩) -∗ wpT d i (wr o off h v i) Q) := by
  subst e hv hL
  unfold wr wpT
  simp only [wp_bind]
  iintro Ho HQ
  unfold OutAt
  icases Ho with ⟨%f, %hf, Ho⟩
  iapply (rd_spec d i o f _ h) $$ Ho
  iintro Ho
  iapply (wp_store 𝒱₀ (th d i) none Set.univ (m := o) (r := Rect.unit (s := S128x128) ![t.val, 16 * k.val] S1x16.size h) (S := o.view.set)
    ((View.setOn_subset_set _ _).trans (View.set_slice_subset _ _))) $$ Ho
  iintro Ho
  iapply (le_wp_ret _ _ _ _ _)
  iapply HQ
  iexists _
  isplitr
  swap; · iexact Ho
  ipureintro
  intro y hy
  by_cases hr : 128 * (y 0).val + (y 1).val < 128 * t.val + 16 * k.val
  · refine (View.read_slice_write_of_not_mem _ _ _ _ ?_).trans (hf y hr)
    rw [Rect.map_emb_univ, Rect.mem_set_unit]
    intro hall
    have h0 := hall 0
    have h1 := hall 1
    simp at h0 h1
    omega
  · have hy1 : (y 1).val < 128 := (y 1).isLt
    have hk := k.isLt
    have h0 : (y 0).val = t.val := by omega
    have h1 : 16 * k.val ≤ (y 1).val ∧ (y 1).val < 16 * k.val + 16 := by omega
    let z : S1x16.Idx := ix2 (0 : Fin 1) (⟨(y 1).val - 16 * k.val, by omega⟩ : Fin 16)
    have hz : (Rect.unit (s := S128x128) ![t.val, 16 * k.val] S1x16.size h).emb z = y := funext fun b => Fin.ext (by
      match b with
      | 0 => show t.val + 1 * 0 = (y 0).val; omega
      | 1 => show 16 * k.val + 1 * ((y 1).val - 16 * k.val) = (y 1).val; omega)
    rw [← hz]
    refine (View.read_slice_write_emb _ _ _ (Finset.mem_univ _)).trans ?_
    rw [hz]
    refine (shapeCast_addUnit_apply ![16] _ _ z).trans ?_
    refine (maskGroup_apply _ _ (fun a : Fin 1 => z a.succ)).trans ?_
    have hrow : (y 0) = t := Fin.ext h0
    have hcol : grp (fun j => X (ix2 t j)) k (fun a => z a.succ) = X y := by
      show X (ix2 t ⟨16 * k.val + ((y 1).val - 16 * k.val), _⟩) = X y
      refine congrArg X (funext fun b => Fin.ext ?_)
      match b with
      | 0 => exact h0.symm
      | 1 => show 16 * k.val + ((y 1).val - 16 * k.val) = (y 1).val; omega
    refine (congrArg (maskVal _) hcol).trans ?_
    subst hrow; rfl

/-- One pass of the row loop. -/
theorem row_spec (a o : MV) (f : Buf (Elt F) (a.view.loc (th d i))) (t : Fin k0_t1_loop.trips) (Q : PUnit → sProp 𝕄) :
    iprop(bufPts d i a f ∗ OutAt d i o (a.view.read (Elt F) f) (128 * t.val))
      ⊢ iprop((iprop(bufPts d i a f ∗ OutAt d i o (a.view.read (Elt F) f) (128 * (t.val + 1))) -∗ Q ⟨⟩) -∗ wpT d i (row i a o t) Q) := by
  have ht : t.val < 128 := trips_eq ▸ t.isLt
  unfold row wpT
  simp only [wp_bind, wp_pure]
  iintro ⟨Ha, Ho⟩ HQ
  iapply (rd_spec d i a f _ _) $$ Ha; iintro Ha
  iapply (rd_spec d i a f _ _) $$ Ha; iintro Ha
  iapply (rd_spec d i a f _ _) $$ Ha; iintro Ha
  iapply (rd_spec d i a f _ _) $$ Ha; iintro Ha
  iapply (rd_spec d i a f _ _) $$ Ha; iintro Ha
  iapply (rd_spec d i a f _ _) $$ Ha; iintro Ha
  iapply (rd_spec d i a f _ _) $$ Ha; iintro Ha
  iapply (rd_spec d i a f _ _) $$ Ha; iintro Ha
  rw [g16_read d i a f _ _ ⟨t.val, ht⟩ 0 (k0_off3_eq t), g16_read d i a f _ _ ⟨t.val, ht⟩ 1 (k0_off4_eq t),
    g16_read d i a f _ _ ⟨t.val, ht⟩ 2 (k0_off5_eq t), g16_read d i a f _ _ ⟨t.val, ht⟩ 3 (k0_off6_eq t),
    g16_read d i a f _ _ ⟨t.val, ht⟩ 4 (k0_off7_eq t), g16_read d i a f _ _ ⟨t.val, ht⟩ 5 (k0_off8_eq t),
    g16_read d i a f _ _ ⟨t.val, ht⟩ 6 (k0_off9_eq t), g16_read d i a f _ _ ⟨t.val, ht⟩ 7 (k0_off10_eq t)]
  iapply (wr_spec d i o (a.view.read (Elt F) f) _ _ ⟨t.val, ht⟩ 0 (k0_off3_eq t) _ (by simp) _ rfl) $$ Ho; iintro Ho
  iapply (wr_spec d i o (a.view.read (Elt F) f) _ _ ⟨t.val, ht⟩ 1 (k0_off4_eq t) _ (by simp) _ rfl) $$ Ho; iintro Ho
  iapply (wr_spec d i o (a.view.read (Elt F) f) _ _ ⟨t.val, ht⟩ 2 (k0_off5_eq t) _ (by simp) _ rfl) $$ Ho; iintro Ho
  iapply (wr_spec d i o (a.view.read (Elt F) f) _ _ ⟨t.val, ht⟩ 3 (k0_off6_eq t) _ (by simp) _ rfl) $$ Ho; iintro Ho
  iapply (wr_spec d i o (a.view.read (Elt F) f) _ _ ⟨t.val, ht⟩ 4 (k0_off7_eq t) _ (by simp) _ rfl) $$ Ho; iintro Ho
  iapply (wr_spec d i o (a.view.read (Elt F) f) _ _ ⟨t.val, ht⟩ 5 (k0_off8_eq t) _ (by simp) _ rfl) $$ Ho; iintro Ho
  iapply (wr_spec d i o (a.view.read (Elt F) f) _ _ ⟨t.val, ht⟩ 6 (k0_off9_eq t) _ (by simp) _ rfl) $$ Ho; iintro Ho
  iapply (wr_spec d i o (a.view.read (Elt F) f) _ _ ⟨t.val, ht⟩ 7 (k0_off10_eq t) _ (by simp) _ rfl) $$ Ho; iintro Ho
  imodintro
  iapply HQ
  isplitl [Ha]; · iexact Ha
  rw [show 128 * (t.val + 1) = 128 * t.val + 16 + 16 + 16 + 16 + 16 + 16 + 16 + 16 by omega]
  iexact Ho

/-- The row loop of a chunk: the out-buffer ends as the mask of the in-buffer. -/
theorem rows_spec (a o : MV) (f : Buf (Elt F) (a.view.loc (th d i))) (g : Buf (Elt F) (o.view.loc (th d i))) (Q : PUnit → sProp 𝕄) :
    iprop(bufPts d i a f ∗ bufPts d i o g)
      ⊢ iprop((∀ g', ⌜o.view.read (Elt F) g' = maskAt (a.view.read (Elt F) f)⌝ -∗ bufPts d i a f -∗ bufPts d i o g' -∗ Q ⟨⟩) -∗ wpT d i (rows i a o) Q) := by
  unfold rows wpT
  have hbody : ∀ (k : Fin k0_t1_loop.trips) (acc : PUnit),
      iprop(bufPts d i a f ∗ OutAt d i o (a.view.read (Elt F) f) (128 * k.val))
        ⊢ wp frame (wpE (defs₀ (F := F)) 𝒱₀ (th d i) none) Set.univ (row i a o k)
            (fun _ => iprop(bufPts d i a f ∗ OutAt d i o (a.view.read (Elt F) f) (128 * (k.val + 1)))) := by
    intro k acc
    iintro H
    iapply (row_spec d i a o f k) $$ H
    iintro H; iexact H
  have hend : OutAt d i o (a.view.read (Elt F) f) (128 * k0_t1_loop.trips)
      ⊢ iprop(∃ g', ⌜o.view.read (Elt F) g' = maskAt (a.view.read (Elt F) f)⌝ ∗ bufPts d i o g') := by
    unfold OutAt
    iintro ⟨%g', %hg, Ho⟩
    iexists g'
    isplitr
    · ipureintro
      funext y
      refine hg y ?_
      have h0 : (y 0).val < 128 := (y 0).isLt
      have h1 : (y 1).val < 128 := (y 1).isLt
      have := trips_eq
      omega
    · iexact Ho
  iintro ⟨Ha, Ho⟩ HQ
  iapply (Scf.wp_for frame (wpE (defs₀ (F := F)) 𝒱₀ (th d i) none) Set.univ k0_t1_loop.lb k0_t1_loop.ub k0_t1_loop.st k0_t1_ok ⟨⟩
    (fun t _ => row i a o t) (fun n _ => iprop(bufPts d i a f ∗ OutAt d i o (a.view.read (Elt F) f) (128 * n))) hbody)
  isplitl [Ha Ho]
  · isplitl [Ha]; · iexact Ha
    unfold OutAt
    iexists g
    isplitr
    · ipureintro; intro y hy; omega
    · iexact Ho
  iintro %acc ⟨Ha, Ho⟩
  ihave Ho := hend $$ Ho
  icases Ho with ⟨%g', %hg, Ho⟩
  iapply HQ $$ %g' %hg Ha Ho

end Cert.KernelIdeal.Topk
-- ==== Proof.KernelIdealTile.lean ====
module

public import proofs.«01_k».proof.Proof.KernelIdealRow
public import Idealize.ShloMosaic.Lib.Writes

/-!
# The tile's work, chunk by chunk

A vector subcore takes 32 chunks of 128 rows one after another. Chunk `c` arrives in one of two in-buffers while the chunk
before it is computed, and leaves from one of two out-buffers while the chunk after it is computed.
-/

@[expose] public section
noncomputable section
namespace Cert.KernelIdeal.Topk
open Cert.KernelIdeal Cert.KernelIdeal.Gen Cert.Topk

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type} [FloatOps F]

local notation "𝕄" => MT nD τ sig (HIx 1) (Elt F) ℕ UU ℕ

variable (d : Dev nD) (i : grid0.Coords) (x y : MH) (B : Bufs)
variable (fx : Buf (Elt F) (x.view.loc (th d i))) (fy : Buf (Elt F) (y.view.loc (th d i)))
variable (O : CellTallies nD τ sig (HIx 1))

abbrev EC : UEmb Counters (MT nD τ sig (HIx 1) (Elt F) ℕ UU ℕ) := countersEmb (U := UU)

/-- Chunk `c` of the operand, at its contents. -/
def xP (c : Nat) : sProp 𝕄 :=
  if h : c < 32 then (xs x i c h).view.loc (th d i) ↦[(xs x i c h).view.set]{fullShare} fx else iprop(emp)

/-- Chunk `c` of the result, at contents `g`. -/
def yP (g : Buf (Elt F) (y.view.loc (th d i))) (c : Nat) : sProp 𝕄 :=
  if h : c < 32 then (ys y i c h).view.loc (th d i) ↦[(ys y i c h).view.set]{fullShare} g else iprop(emp)

/-- The result's contents once every chunk is the mask of the operand's. -/
def gy : Buf (Elt F) (y.view.loc (th d i)) :=
  y.view.write (Elt F) fy (maskAt (x.view.read (Elt F) fx)) Finset.univ

/-- A buffer of the tile that reads as `X`. -/
def Holds (a : MV) (X : S128x128.Idx → F .f32) : sProp 𝕄 :=
  iprop(∃ f, ⌜a.view.read (Elt F) f = X⌝ ∗ bufPts d i a f)

/-- An in-buffer or an out-buffer at rest: its contents are anything and no copy is under way. -/
def Free (a : MV) (s : DmaSems sig S_) : sProp 𝕄 := iprop((∃ f, bufPts d i a f) ∗ semVal (th d i, .dma s.sem) 0)

/-- Chunk `c` of the operand, as values. -/
def xC (c : Nat) : S128x128.Idx → F .f32 := if h : c < 32 then (xs x i c h).view.read (Elt F) fx else fun _ => Scalar.ofBits .f32 0#32

/-- Chunk `c` of the operand on its way to its in-buffer. -/
def InFlight (c : Nat) : sProp 𝕄 :=
  Transfers.Flight EC (th d i) (.dma (B.isem (par c)).sem) (default : HIx 1) (B.ins (par c)).view.dmaCredit
    iprop(Holds d i (B.ins (par c)) (xC d i x fx c) ∗ xP d i x fx c)

/-- Chunk `c` of the result on its way from its out-buffer. -/
def OutFlight (c : Nat) : sProp 𝕄 :=
  if h : c < 32 then
    Transfers.Flight EC (th d i) (.dma (B.osem (par c)).sem) (default : HIx 1) (ys y i c h).view.dmaCredit
      iprop(yP d i y (gy d i x y fx fy) c ∗ ∃ f, bufPts d i (B.outs (par c)) f)
  else iprop(emp)

def Owes : sProp 𝕄 := iprop(∃ W, owes (th d i) O W)

theorem fetch_spec (c : Nat) (h : c < 32) (Q : PUnit → sProp 𝕄) :
    iprop(Free d i (B.ins (par c)) (B.isem (par c)) ∗ xP d i x fx c)
      ⊢ iprop((InFlight d i x B fx c -∗ Q ⟨⟩) -∗ wpT d i (fetch i x B c h) Q) := by
  unfold fetch Free InFlight xP
  rw [dif_pos h]
  iintro ⟨⟨⟨%f, Hb⟩, Hv⟩, Hx⟩ HQ
  iapply (Transfers.wp_dmaLocal EC 𝒱₀ (th d i) none (src := xs x i c h) (dst := B.ins (par c)) (via := .same) (default : HIx 1)
    (B.ins (par c)).view.dmaCredit rfl (View.amount_pos _ (SemLoc.dma (B.isem (par c)).sem) (show 0 < S128x128.numel by decide)) (Finset.Subset.refl _)) $$ [Hb Hv Hx]
  · isplitl [Hx]; · iexact Hx
    isplitl [Hb]; · iexact Hb
    iexact Hv
  iintro Hf
  iapply (le_wp_ret _ _ _ _ _)
  iapply HQ
  iapply (Transfers.Flight_mono EC (th d i) ?_) $$ Hf
  iintro ⟨Hb, Hx⟩
  isplitl [Hb]
  · unfold Holds
    iexists _
    isplitr
    swap; · iexact Hb
    ipureintro
    rw [View.read_write_univ, xC, dif_pos h]
  · iexact Hx

theorem fetched_spec (c : Nat) (h : c < 32) (Q : PUnit → sProp 𝕄) :
    iprop(InFlight d i x B fx c ∗ Owes d i O ∗ Transfers.MayWaits (th d i) (default : HIx 1) O)
      ⊢ iprop((iprop(Holds d i (B.ins (par c)) (xC d i x fx c) ∗ xP d i x fx c ∗ semVal (th d i, .dma (B.isem (par c)).sem) 0 ∗ Owes d i O) -∗ Q ⟨⟩)
          -∗ wpT d i (fetched i x B c h) Q) := by
  unfold fetched InFlight Owes
  iintro ⟨Hf, ⟨%W, HO⟩, Hmw⟩ HQ
  iapply (Transfers.wp_waitLocalO EC 𝒱₀ (th d i) none (srcw := xs x i c h) (dstw := B.ins (par c)) (default : HIx 1) rfl) $$ [Hf HO Hmw]
  · isplitl [Hf]; · iexact Hf
    isplitl [HO]; · iexact HO
    iapply (Transfers.MayWaits.elim (.dma (B.isem (par c)).sem)) $$ Hmw
  iintro ⟨⟨Hb, Hx⟩, Hv, HO⟩
  iapply (le_wp_ret _ _ _ _ _)
  iapply HQ
  isplitl [Hb]; · iexact Hb
  isplitl [Hx]; · iexact Hx
  isplitl [Hv]; · iexact Hv
  iexists _; iexact HO

theorem xoff_eq (c : Nat) (h : c < 32) : xoff i c = ![8192 * (i 1).val + 4096 * (i 0).val + 128 * c, 0] := by
  match c with
  | 0 => exact k0_off1_eq i
  | c + 1 => exact k0_off2_eq i ⟨c + 1, h⟩

/-- The mask of whole rows is the rows of the mask. -/
theorem maskAt_emb (X : S131072x128.Idx → F .f32) (off off' : Fin 2 → Nat) (o : Nat) (e : off = ![o, 0]) (e' : off' = ![o, 0])
    (h : ∀ a, off a + S128x128.size a ≤ S131072x128.size a) (h' : ∀ a, off' a + S128x128.size a ≤ S131072x128.size a) (z : S128x128.Idx) :
    maskAt (fun z => X ((Rect.unit (s := S131072x128) off S128x128.size h).emb z)) z
      = maskAt X ((Rect.unit (s := S131072x128) off' S128x128.size h').emb z) := by
  subst e e'
  have hj : ∀ j : Fin 128, (Rect.unit (s := S131072x128) ![o, 0] S128x128.size h).emb (ix2 (z 0) j)
      = ix2 ((Rect.unit (s := S131072x128) ![o, 0] S128x128.size h').emb z 0) j := fun j => funext fun b => Fin.ext (by
    match b with
    | 0 => rfl
    | 1 => show 0 + 1 * j.val = j.val; omega)
  unfold maskAt
  refine congrArg (fun R => maskVal (thrRow R) _) (funext fun j => congrArg X (hj j))

/-- What a chunk of the result holds once its copy has landed. -/
theorem y_land (c : Nat) (h : c < 32) :
    ((ys y i c h).view.loc (th d i) ↦[(ys y i c h).view.set]{fullShare} ((ys y i c h).view.write (Elt F) fy (maskAt (xC d i x fx c)) Finset.univ) : sProp 𝕄)
      = yP d i y (gy d i x y fx fy) c := by
  rw [yP, dif_pos h]
  refine pointsTo_congr fun k hk => ?_
  obtain ⟨z, -, rfl⟩ := Finset.mem_map.mp hk
  rw [View.write_emb_of_mem _ _ (Finset.mem_univ _)]
  refine Eq.symm ((View.write_emb_of_mem (v := y.view) fy (maskAt (x.view.read (Elt F) fx)) (Finset.mem_univ _)).trans ?_)
  refine congrArg (_root_.cast _) ?_
  rw [xC, dif_pos h]
  exact (maskAt_emb (x.view.read (Elt F) fx) _ _ _ (xoff_eq i c h) (k0_off2_eq i ⟨c, h⟩) (xoff_inb i c h) (k0_off2_inb i ⟨c, h⟩) z).symm

theorem put_spec (c : Nat) (h : c < 32) (Q : PUnit → sProp 𝕄) :
    iprop(Holds d i (B.outs (par c)) (maskAt (xC d i x fx c)) ∗ semVal (th d i, .dma (B.osem (par c)).sem) 0 ∗ yP d i y fy c)
      ⊢ iprop((OutFlight d i x y B fx fy c -∗ Q ⟨⟩) -∗ wpT d i (put i y B c h) Q) := by
  unfold put OutFlight
  rw [dif_pos h]
  iintro ⟨Hb, Hv, Hy⟩ HQ
  unfold Holds
  icases Hb with ⟨%g, %hg, Hb⟩
  ihave Hy := (Entails.of_eq (show yP d i y fy c = _ from dif_pos h)) $$ Hy
  iapply (Transfers.wp_dmaLocal EC 𝒱₀ (th d i) none (src := B.outs (par c)) (dst := ys y i c h) (via := .same) (default : HIx 1)
    (ys y i c h).view.dmaCredit rfl (View.amount_pos _ (SemLoc.dma (B.osem (par c)).sem) (show 0 < S128x128.numel by decide)) (Finset.Subset.refl _)) $$ [Hb Hv Hy]
  · isplitl [Hb]; · iexact Hb
    isplitl [Hy]; · iexact Hy
    iexact Hv
  iintro Hf
  iapply (le_wp_ret _ _ _ _ _)
  iapply HQ
  iapply (Transfers.Flight_mono EC (th d i) ?_) $$ Hf
  iintro ⟨Hy, Hb⟩
  isplitl [Hy]
  · iapply (Entails.of_eq (y_land d i x y fx fy c h))
    rw [← hg]
    iexact Hy
  · iexists g; iexact Hb

theorem putDone_spec (c : Nat) (h : c < 32) (Q : PUnit → sProp 𝕄) :
    iprop(OutFlight d i x y B fx fy c ∗ Owes d i O ∗ Transfers.MayWaits (th d i) (default : HIx 1) O)
      ⊢ iprop((iprop(yP d i y (gy d i x y fx fy) c ∗ Free d i (B.outs (par c)) (B.osem (par c)) ∗ Owes d i O) -∗ Q ⟨⟩)
          -∗ wpT d i (putDone i y B c h) Q) := by
  unfold putDone OutFlight Owes
  rw [dif_pos h]
  iintro ⟨Hf, ⟨%W, HO⟩, Hmw⟩ HQ
  iapply (Transfers.wp_waitLocalO EC 𝒱₀ (th d i) none (srcw := B.outs (par c)) (dstw := ys y i c h) (default : HIx 1) rfl) $$ [Hf HO Hmw]
  · isplitl [Hf]; · iexact Hf
    isplitl [HO]; · iexact HO
    iapply (Transfers.MayWaits.elim (.dma (B.osem (par c)).sem)) $$ Hmw
  iintro ⟨⟨Hy, Hb⟩, Hv, HO⟩
  iapply (le_wp_ret _ _ _ _ _)
  iapply HQ
  isplitl [Hy]; · iexact Hy
  unfold Free
  isplitl [Hb Hv]
  · isplitl [Hb]; · iexact Hb
    iexact Hv
  iexists _; iexact HO

/-- A chunk that has arrived is computed and sent off. -/
theorem work_spec (c : Nat) (h : c < 32) (p : TProg F i PUnit) (Q : PUnit → sProp 𝕄) :
    iprop(Holds d i (B.ins (par c)) (xC d i x fx c) ∗ semVal (th d i, .dma (B.isem (par c)).sem) 0
        ∗ Free d i (B.outs (par c)) (B.osem (par c)) ∗ yP d i y fy c)
      ⊢ iprop((iprop(Free d i (B.ins (par c)) (B.isem (par c)) ∗ OutFlight d i x y B fx fy c) -∗ wpT d i p Q)
          -∗ wpT d i (rows i (B.ins (par c)) (B.outs (par c)) >>= fun _ => put i y B c h >>= fun _ => p) Q) := by
  unfold wpT
  simp only [wp_bind]
  unfold Holds Free
  iintro ⟨⟨%f, %hf, Hb⟩, Hv, ⟨⟨%g, Hg⟩, Hw⟩, Hy⟩ HQ
  iapply (rows_spec d i (B.ins (par c)) (B.outs (par c)) f g) $$ [Hb Hg]
  · isplitl [Hb]; · iexact Hb
    iexact Hg
  iintro %g' %hg' Hb Hg
  iapply (put_spec d i x y B fx fy c h) $$ [Hg Hw Hy]
  · unfold Holds
    isplitl [Hg]
    · iexists g'
      isplitr
      · ipureintro; rw [hg', hf]
      · iexact Hg
    isplitl [Hw]; · iexact Hw
    iexact Hy
  iintro Hf
  iapply HQ
  isplitl [Hb Hv]
  · isplitl [Hb]; · iexists f; iexact Hb
    iexact Hv
  iexact Hf

/-- `n` chunks from `c` on. -/
def seg (Φ : Nat → sProp 𝕄) : Nat → Nat → sProp 𝕄
  | 0, _ => iprop(emp)
  | n + 1, c => iprop(Φ c ∗ seg Φ n (c + 1))

theorem seg_succ (Φ : Nat → sProp 𝕄) (n c : Nat) : seg Φ (n + 1) c = iprop(Φ c ∗ seg Φ n (c + 1)) := rfl

/-- The out-buffer chunk `c` uses, before chunk `c`: chunk `c - 2` is on its way from it, if there is one. -/
def OutSlot : Nat → sProp 𝕄
  | 0 => Free d i (B.outs (par 0)) (B.osem (par 0))
  | 1 => Free d i (B.outs (par 1)) (B.osem (par 1))
  | c + 2 => OutFlight d i x y B fx fy c

/-- Chunk `c - 2` of the result, if there is one. -/
def yBack : Nat → sProp 𝕄
  | 0 => iprop(emp)
  | 1 => iprop(emp)
  | c + 2 => yP d i y (gy d i x y fx fy) c

/-- The in-buffer chunk `c` uses, with `n` chunks left. -/
def InSlot : Nat → Nat → sProp 𝕄
  | 0, c => Free d i (B.ins (par c)) (B.isem (par c))
  | _ + 1, c => InFlight d i x B fx c

def AllFree : sProp 𝕄 :=
  iprop(Free d i (B.ins 0) (B.isem 0) ∗ Free d i (B.ins 1) (B.isem 1) ∗ Free d i (B.outs 0) (B.osem 0) ∗ Free d i (B.outs 1) (B.osem 1))

/-- What a tile holds with `n` chunks left, from chunk `c` on. -/
def Pre (n c : Nat) : sProp 𝕄 :=
  iprop(InSlot d i x B fx n c ∗ Free d i (B.ins (par (c + 1))) (B.isem (par (c + 1)))
    ∗ OutSlot d i x y B fx fy c ∗ OutSlot d i x y B fx fy (c + 1)
    ∗ seg (xP d i x fx) (n - 1) (c + 1) ∗ seg (yP d i y fy) n c ∗ Owes d i O)

/-- What it has once all are done. -/
def Post (n c : Nat) : sProp 𝕄 :=
  iprop(seg (xP d i x fx) n c ∗ seg (yP d i y (gy d i x y fx fy)) n c
    ∗ yBack d i x y fx fy c ∗ yBack d i x y fx fy (c + 1) ∗ AllFree d i B ∗ Owes d i O)

theorem par_add_two (c : Nat) : par (c + 2) = par c := Fin.ext (by show (c + 2) % 2 = c % 2; omega)

/-- A chunk that has arrived is computed, sent off, and the rest done after it. -/
theorem step_spec (n c : Nat) (h : c < 32) (p : TProg F i PUnit) (Q : PUnit → sProp 𝕄)
    (ih : ∀ Q : PUnit → sProp 𝕄, iprop(Pre d i x y B fx fy O n (c + 1) ∗ Transfers.MayWaits (th d i) (default : HIx 1) O)
      ⊢ iprop((Post d i x y B fx fy O n (c + 1) -∗ Q ⟨⟩) -∗ wpT d i p Q)) :
    iprop((InSlot d i x B fx n (c + 1) ∗ Holds d i (B.ins (par c)) (xC d i x fx c) ∗ xP d i x fx c ∗ semVal (th d i, .dma (B.isem (par c)).sem) 0)
        ∗ (Free d i (B.outs (par c)) (B.osem (par c)) ∗ yBack d i x y fx fy c) ∗ OutSlot d i x y B fx fy (c + 1)
        ∗ seg (xP d i x fx) (n - 1) (c + 1 + 1) ∗ (yP d i y fy c ∗ seg (yP d i y fy) n (c + 1)) ∗ Owes d i O
        ∗ Transfers.MayWaits (th d i) (default : HIx 1) O)
      ⊢ iprop((Post d i x y B fx fy O (n + 1) c -∗ Q ⟨⟩)
          -∗ wpT d i (rows i (B.ins (par c)) (B.outs (par c)) >>= fun _ => put i y B c h >>= fun _ => p) Q) := by
  iintro ⟨⟨Hin, Hb, Hx, Hv⟩, ⟨Hfree, Hback⟩, Hout, Hxs, ⟨Hy, Hys⟩, HO, #Hmw⟩ HQ
  iapply (work_spec d i x y B fx fy c h p) $$ [Hb Hv Hfree Hy]
  · isplitl [Hb]; · iexact Hb
    isplitl [Hv]; · iexact Hv
    isplitl [Hfree]; · iexact Hfree
    iexact Hy
  iintro ⟨Hfi, Hfl⟩
  iapply (ih Q) $$ [Hin Hfi Hout Hfl Hxs Hys HO]
  · isplitl
    · unfold Pre
      rw [par_add_two, show OutSlot d i x y B fx fy (c + 1 + 1) = OutFlight d i x y B fx fy c from rfl]
      isplitl [Hin]; · iexact Hin
      isplitl [Hfi]; · iexact Hfi
      isplitl [Hout]; · iexact Hout
      isplitl [Hfl]; · iexact Hfl
      isplitl [Hxs]; · iexact Hxs
      isplitl [Hys]; · iexact Hys
      iexact HO
    · iexact Hmw
  unfold Post
  rw [show yBack d i x y fx fy (c + 1 + 1) = yP d i y (gy d i x y fx fy) c from rfl, seg_succ (xP d i x fx) n c,
    seg_succ (yP d i y (gy d i x y fx fy)) n c]
  iintro ⟨Hxs, Hys, Hy1, Hy2, Hfree, HO⟩
  iapply HQ
  isplitl [Hx Hxs]
  · isplitl [Hx]; · iexact Hx
    iexact Hxs
  isplitl [Hy2 Hys]
  · isplitl [Hy2]; · iexact Hy2
    iexact Hys
  isplitl [Hback]; · iexact Hback
  isplitl [Hy1]; · iexact Hy1
  isplitl [Hfree]; · iexact Hfree
  iexact HO

set_option maxHeartbeats 1000000 in
/-- The chunks from `c` on. -/
theorem chunks_spec : ∀ (n c : Nat) (h : c + n = 32) (Q : PUnit → sProp 𝕄),
    iprop(Pre d i x y B fx fy O n c ∗ Transfers.MayWaits (th d i) (default : HIx 1) O)
      ⊢ iprop((Post d i x y B fx fy O n c -∗ Q ⟨⟩) -∗ wpT d i (chunks i x y B n c h) Q)
  | 0, c, h, Q => by
    obtain rfl : c = 32 := by omega
    unfold Pre Post AllFree chunks wpT
    simp only [wp_bind, wp_pure]
    rw [show OutSlot d i x y B fx fy 32 = OutFlight d i x y B fx fy 30 from rfl,
      show OutSlot d i x y B fx fy (32 + 1) = OutFlight d i x y B fx fy 31 from rfl,
      show yBack d i x y fx fy 32 = yP d i y (gy d i x y fx fy) 30 from rfl,
      show yBack d i x y fx fy (32 + 1) = yP d i y (gy d i x y fx fy) 31 from rfl,
      show InSlot d i x B fx 0 32 = Free d i (B.ins 0) (B.isem 0) from rfl,
      show Free d i (B.ins (par (32 + 1))) (B.isem (par (32 + 1))) = Free d i (B.ins 1) (B.isem 1) from rfl,
      show seg (xP d i x fx) 0 32 = iprop(emp) from rfl, show seg (xP d i x fx) (0 - 1) (32 + 1) = iprop(emp) from rfl,
      show seg (yP d i y (gy d i x y fx fy)) 0 32 = iprop(emp) from rfl, show seg (yP d i y fy) 0 32 = iprop(emp) from rfl]
    iintro ⟨⟨Hi0, Hi1, Ho0, Ho1, Hxs, Hys, HO⟩, #Hmw⟩ HQ
    iapply (putDone_spec d i x y B fx fy O 30 _) $$ [Ho0 HO]
    · isplitl [Ho0]; · iexact Ho0
      isplitl [HO]; · iexact HO
      iexact Hmw
    iintro ⟨Hy0, Hf0, HO⟩
    iapply (putDone_spec d i x y B fx fy O 31 _) $$ [Ho1 HO]
    · isplitl [Ho1]; · iexact Ho1
      isplitl [HO]; · iexact HO
      iexact Hmw
    iintro ⟨Hy1, Hf1, HO⟩
    imodintro
    iapply HQ
    isplitl [Hxs]; · iexact Hxs
    isplitl [Hys]; · iexact Hys
    isplitl [Hy0]; · iexact Hy0
    isplitl [Hy1]; · iexact Hy1
    isplitr [HO]
    · isplitl [Hi0]; · iexact Hi0
      isplitl [Hi1]; · iexact Hi1
      isplitl [Hf0]; · iexact Hf0
      iexact Hf1
    iexact HO
  | 1, c, h, Q => by
    obtain rfl : c = 31 := by omega
    unfold Pre chunks wpT
    rw [dif_neg (by decide), show OutSlot d i x y B fx fy 31 = OutFlight d i x y B fx fy 29 from rfl,
      show InSlot d i x B fx 1 31 = InFlight d i x B fx 31 from rfl, show seg (xP d i x fx) (1 - 1) (31 + 1) = iprop(emp) from rfl,
      seg_succ (yP d i y fy) 0 31]
    simp only [wp_bind _ _ _ (fetched _ _ _ _ _), wp_bind _ _ _ (putDone _ _ _ _ _)]
    iintro ⟨⟨Hi0, Hi1, Ho0, Ho1, Hxs, Hys, HO⟩, #Hmw⟩ HQ
    iapply (fetched_spec d i x B fx O 31 _) $$ [Hi0 HO]
    · isplitl [Hi0]; · iexact Hi0
      isplitl [HO]; · iexact HO
      iexact Hmw
    iintro ⟨Hb, Hx, Hv, HO⟩
    iapply (putDone_spec d i x y B fx fy O 29 _) $$ [Ho0 HO]
    · isplitl [Ho0]; · iexact Ho0
      isplitl [HO]; · iexact HO
      iexact Hmw
    iintro ⟨Hy0, Hf0, HO⟩
    have e := step_spec d i x y B fx fy O 0 31 (by decide) _ Q (chunks_spec 0 32 rfl)
    rw [show InSlot d i x B fx 0 (31 + 1) = Free d i (B.ins (par (31 + 1))) (B.isem (par (31 + 1))) from rfl,
      show yBack d i x y fx fy 31 = yP d i y (gy d i x y fx fy) 29 from rfl,
      show seg (xP d i x fx) (0 - 1) (31 + 1 + 1) = iprop(emp) from rfl,
      show Free d i (B.outs (par 31)) (B.osem (par 31)) = Free d i (B.outs (par 29)) (B.osem (par 29)) from rfl] at e
    iapply e $$ [Hi1 Hb Hx Hv Hy0 Hf0 HO Ho1 Hxs Hys]
    · isplitl [Hi1 Hb Hx Hv]
      · isplitl [Hi1]; · iexact Hi1
        isplitl [Hb]; · iexact Hb
        isplitl [Hx]; · iexact Hx
        iexact Hv
      isplitl [Hy0 Hf0]
      · isplitl [Hf0]; · iexact Hf0
        iexact Hy0
      isplitl [Ho1]; · iexact Ho1
      isplitl [Hxs]; · iexact Hxs
      isplitl [Hys]; · iexact Hys
      isplitl [HO]; · iexact HO
      iexact Hmw
    iexact HQ
  | n + 2, c, h, Q => by
    unfold Pre chunks wpT
    rw [dif_pos (by omega), show InSlot d i x B fx (n + 2) c = InFlight d i x B fx c from rfl,
      show seg (xP d i x fx) (n + 2 - 1) (c + 1) = iprop(xP d i x fx (c + 1) ∗ seg (xP d i x fx) n (c + 1 + 1)) from rfl,
      show seg (yP d i y fy) (n + 2) c = iprop(yP d i y fy c ∗ seg (yP d i y fy) (n + 1) (c + 1)) from rfl]
    simp only [wp_bind _ _ _ (fetched _ _ _ _ _), wp_bind _ _ _ (fetch _ _ _ _ _)]
    iintro ⟨⟨Hi0, Hi1, Ho0, Ho1, ⟨Hx1, Hxs⟩, Hys, HO⟩, #Hmw⟩ HQ
    iapply (fetched_spec d i x B fx O c _) $$ [Hi0 HO]
    · isplitl [Hi0]; · iexact Hi0
      isplitl [HO]; · iexact HO
      iexact Hmw
    iintro ⟨Hb, Hx, Hv, HO⟩
    iapply (fetch_spec d i x B fx (c + 1) _) $$ [Hi1 Hx1]
    · isplitl [Hi1]; · iexact Hi1
      iexact Hx1
    iintro Hi1
    match c, h with
    | 0, h =>
      rw [if_neg (by decide)]
      have e := step_spec d i x y B fx fy O (n + 1) 0 (by decide) _ Q (chunks_spec (n + 1) (0 + 1) (by omega))
      rw [show InSlot d i x B fx (n + 1) (0 + 1) = InFlight d i x B fx (0 + 1) from rfl,
        show Free d i (B.outs (par 0)) (B.osem (par 0)) = OutSlot d i x y B fx fy 0 from rfl,
        show yBack d i x y fx fy 0 = iprop(emp) from rfl] at e
      iapply e $$ [Hi1 Hb Hx Hv HO Ho0 Ho1 Hxs Hys]
      · isplitl [Hi1 Hb Hx Hv]
        · isplitl [Hi1]; · iexact Hi1
          isplitl [Hb]; · iexact Hb
          isplitl [Hx]; · iexact Hx
          iexact Hv
        isplitl [Ho0]
        · isplitl [Ho0]; · iexact Ho0
          iempintro
        isplitl [Ho1]; · iexact Ho1
        isplitl [Hxs]; · iexact Hxs
        isplitl [Hys]; · iexact Hys
        isplitl [HO]; · iexact HO
        iexact Hmw
      iexact HQ
    | 1, h =>
      rw [if_neg (by decide)]
      have e := step_spec d i x y B fx fy O (n + 1) 1 (by decide) _ Q (chunks_spec (n + 1) (1 + 1) (by omega))
      rw [show InSlot d i x B fx (n + 1) (1 + 1) = InFlight d i x B fx (1 + 1) from rfl,
        show Free d i (B.outs (par 1)) (B.osem (par 1)) = OutSlot d i x y B fx fy 1 from rfl,
        show yBack d i x y fx fy 1 = iprop(emp) from rfl] at e
      iapply e $$ [Hi1 Hb Hx Hv HO Ho0 Ho1 Hxs Hys]
      · isplitl [Hi1 Hb Hx Hv]
        · isplitl [Hi1]; · iexact Hi1
          isplitl [Hb]; · iexact Hb
          isplitl [Hx]; · iexact Hx
          iexact Hv
        isplitl [Ho0]
        · isplitl [Ho0]; · iexact Ho0
          iempintro
        isplitl [Ho1]; · iexact Ho1
        isplitl [Hxs]; · iexact Hxs
        isplitl [Hys]; · iexact Hys
        isplitl [HO]; · iexact HO
        iexact Hmw
      iexact HQ
    | c + 2, h =>
      rw [if_pos (by omega), wp_bind _ _ _ (putDone _ _ _ _ _)]
      ihave Ho0 := (Entails.of_eq (show OutSlot d i x y B fx fy (c + 2) = OutFlight d i x y B fx fy (c + 2 - 2) from rfl)) $$ Ho0
      iapply (putDone_spec d i x y B fx fy O (c + 2 - 2) _) $$ [Ho0 HO]
      · isplitl [Ho0]; · iexact Ho0
        isplitl [HO]; · iexact HO
        iexact Hmw
      iintro ⟨Hy0, Hf0, HO⟩
      ihave Hf0 := (Entails.of_eq (show Free d i (B.outs (par (c + 2 - 2))) (B.osem (par (c + 2 - 2))) = Free d i (B.outs (par (c + 2))) (B.osem (par (c + 2))) by
        rw [par_add_two]; rfl)) $$ Hf0
      have e := step_spec d i x y B fx fy O (n + 1) (c + 2) (by omega) _ Q (chunks_spec (n + 1) (c + 2 + 1) (by omega))
      rw [show InSlot d i x B fx (n + 1) (c + 2 + 1) = InFlight d i x B fx (c + 2 + 1) from rfl,
        show yBack d i x y fx fy (c + 2) = yP d i y (gy d i x y fx fy) (c + 2 - 2) from rfl] at e
      iapply e $$ [Hi1 Hb Hx Hv HO Hy0 Hf0 Ho1 Hxs Hys]
      · isplitl [Hi1 Hb Hx Hv]
        · isplitl [Hi1]; · iexact Hi1
          isplitl [Hb]; · iexact Hb
          isplitl [Hx]; · iexact Hx
          iexact Hv
        isplitl [Hy0 Hf0]
        · isplitl [Hf0]; · iexact Hf0
          iexact Hy0
        isplitl [Ho1]; · iexact Ho1
        isplitl [Hxs]; · iexact Hxs
        isplitl [Hys]; · iexact Hys
        isplitl [HO]; · iexact HO
        iexact Hmw
      iexact HQ

/-- The tile's work: all 32 chunks of the result end as the mask of the operand's. -/
theorem tile_spec (Q : PUnit → sProp 𝕄) :
    iprop(AllFree d i B ∗ seg (xP d i x fx) 32 0 ∗ seg (yP d i y fy) 32 0 ∗ Owes d i O ∗ Transfers.MayWaits (th d i) (default : HIx 1) O)
      ⊢ iprop((iprop(AllFree d i B ∗ seg (xP d i x fx) 32 0 ∗ seg (yP d i y (gy d i x y fx fy)) 32 0 ∗ Owes d i O) -∗ Q ⟨⟩)
          -∗ wpT d i (tile i x y B) Q) := by
  have e := chunks_spec d i x y B fx fy O 32 0 rfl Q
  unfold Pre Post at e
  rw [show InSlot d i x B fx 32 0 = InFlight d i x B fx 0 from rfl,
    show OutSlot d i x y B fx fy 0 = Free d i (B.outs 0) (B.osem 0) from rfl,
    show OutSlot d i x y B fx fy (0 + 1) = Free d i (B.outs 1) (B.osem 1) from rfl,
    show Free d i (B.ins (par (0 + 1))) (B.isem (par (0 + 1))) = Free d i (B.ins 1) (B.isem 1) from rfl] at e
  unfold tile wpT AllFree
  have es : seg (xP d i x fx) 32 0 = iprop(xP d i x fx 0 ∗ seg (xP d i x fx) 31 1) := rfl
  simp only [wp_bind _ _ _ (fetch _ _ _ _ _)]
  iintro ⟨⟨Hi0, Hi1, Ho0, Ho1⟩, Hxs, Hys, HO, #Hmw⟩ HQ
  ihave Hxs := (Entails.of_eq es) $$ Hxs
  icases Hxs with ⟨Hx, Hxs⟩
  iapply (fetch_spec d i x B fx 0 _) $$ [Hi0 Hx]
  · isplitl [Hi0]; · iexact Hi0
    iexact Hx
  iintro Hi0
  iapply e $$ [Hi0 Hi1 Ho0 Ho1 Hxs Hys HO]
  · isplitl
    · isplitl [Hi0]; · iexact Hi0
      isplitl [Hi1]; · iexact Hi1
      isplitl [Ho0]; · iexact Ho0
      isplitl [Ho1]; · iexact Ho1
      isplitl [Hxs]; · iexact Hxs
      isplitl [Hys]; · iexact Hys
      iexact HO
    · iexact Hmw
  unfold AllFree
  iintro ⟨Hxs, Hys, -, -, Hfree, HO⟩
  iapply HQ
  isplitl [Hfree]; · iexact Hfree
  isplitl [Hxs]; · iexact Hxs
  isplitl [Hys]; · iexact Hys
  iexact HO

end Cert.KernelIdeal.Topk
-- ==== Proof.KernelIdealBody.lean ====
module

public import proofs.«01_k».proof.KernelIdeal
public import proofs.«01_k».proof.Proof.KernelIdealProg

/-!
# The kernel's body is the tile's work

The printed body is a sequence of windows. Joined, they are `tile`: the first fetch, the 32 chunks, the last two waits.
-/

@[expose] public section
set_option maxRecDepth 16384
noncomputable section
namespace Cert.KernelIdeal.Topk
open Cert.KernelIdeal Cert.KernelIdeal.Facts₀ Cert.KernelIdeal.Facts
open Idealize.ShloMosaic Idealize.SL.Sem
open Cert.Topk

variable {F : FTy → Type} [FloatOps F] [Facts]

set_option maxHeartbeats 0 in
/-- The kernel's body is the tile's work: the printed windows joined, chunk by chunk. -/
theorem body_eq (i : grid0.Coords) (arg2 : MH) (harg2 : arg2.IsWhole) (arg3 : MH) (harg3 : arg3.IsWhole)
    (arg4 : MV) (harg4 : arg4.IsWhole) (arg5 : MV) (harg5 : arg5.IsWhole)
    (arg6 : MV) (harg6 : arg6.IsWhole) (arg7 : MV) (harg7 : arg7.IsWhole)
    (arg8 arg9 arg10 arg11 : DmaSems sig S_) :
    cc0__sc_topk_mask (F := F) i arg2 harg2 arg3 harg3 arg4 harg4 arg5 harg5 arg6 harg6 arg7 harg7 arg8 arg9 arg10 arg11
      = tile i arg2 arg3 ⟨fun b => match b with | 0 => arg4 | 1 => arg5, fun b => match b with | 0 => arg6 | 1 => arg7,
          fun b => match b with | 0 => arg8 | 1 => arg9, fun b => match b with | 0 => arg10 | 1 => arg11,
          fun b => match b with | 0 => harg4 | 1 => harg5, fun b => match b with | 0 => harg6 | 1 => harg7⟩ := by
  unfold cc0__sc_topk_mask k0_part417 k0_part418 k0_part419 k0_part420 k0_part421 k0_part422 k0_part423 k0_part424
    k0_part425 k0_part426 k0_part427 k0_part428 k0_part429 k0_part430 k0_part431 k0_part432
  simp only [bind_assoc, pure_bind]
  rfl

end Cert.KernelIdeal.Topk
-- ==== Proof.KernelIdealRun.lean ====
module

public import proofs.«01_k».proof.Defs
public import proofs.«01_k».proof.Proof.KernelIdealTile
public import proofs.«01_k».proof.Proof.KernelIdealBody
public import Idealize.ShloMosaic.Lib.StableHlo.Run

/-!
# The program's run

The one call hands each of the two SparseCores its half of the operand's and of the result's rows, each SparseCore its sixteen
vector subcores 4096 rows each; a subcore's rows are the 32 chunks its work goes through. At the end the result is the mask of
the operand, row by row, and the operand is unchanged.
-/

@[expose] public section
noncomputable section
namespace Cert.KernelIdeal.Topk
open Cert.KernelIdeal Cert.KernelIdeal.Gen Cert.Topk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The launch memory and the rows -/

variable (m : (ℓ : Loc nD τ sig) → Buf (Elt F) ℓ) (ρ : Dev nD → PrngReg)

abbrev xLoc (d : Dev nD) : Loc nD τ sig := (SparseCore.T d).loc main_arg0
abbrev yLoc (d : Dev nD) : Loc nD τ sig := (SparseCore.T d).loc main_v0

local notation "xV" => (Memref.whole Cert.KernelIdeal.main_arg0_scv : Memref Cert.KernelIdeal.sig Kind.scVector Space.hbm Cert.KernelIdeal.S131072x128 EltTy.f32)
local notation "yV" => (Memref.whole Cert.KernelIdeal.main_v0_scv : Memref Cert.KernelIdeal.sig Kind.scVector Space.hbm Cert.KernelIdeal.S131072x128 EltTy.f32)

/-- The rows of the groups of 128 rows from `a` up to `b`. -/
def rowsSet (a b : Nat) : Finset S131072x128.Idx := Finset.univ.filter fun k => a ≤ (k 0).val / 128 ∧ (k 0).val / 128 < b

theorem mem_rowsSet {a b : Nat} {k : S131072x128.Idx} : k ∈ rowsSet a b ↔ a ≤ (k 0).val / 128 ∧ (k 0).val / 128 < b := by
  simp [rowsSet]

/-- The rows of subcore `s` of SparseCore `c`. -/
abbrev tileSet (c s : Nat) : Finset S131072x128.Idx := rowsSet (32 * (2 * s + c)) (32 * (2 * s + c) + 32)

/-- The rows of SparseCore `c`. -/
def coreSet (c : Nat) : Finset S131072x128.Idx := Finset.univ.filter fun k => (k 0).val / 4096 % 2 = c

theorem mem_coreSet {c : Nat} {k : S131072x128.Idx} : k ∈ coreSet c ↔ (k 0).val / 4096 % 2 = c := by
  simp [coreSet]

theorem tiles_disjoint (c : Fin 2) : ∀ s ∈ (Finset.univ : Finset (Fin 16)), ∀ t ∈ (Finset.univ : Finset (Fin 16)), s ≠ t →
    Disjoint (tileSet c.val s.val) (tileSet c.val t.val) := fun s _ t _ h => by
  have : s.val ≠ t.val := fun e => h (Fin.ext e)
  refine Finset.disjoint_left.mpr fun k hk hk' => ?_
  rw [mem_rowsSet] at hk hk'
  omega

theorem tiles_cover (c : Fin 2) : (Finset.univ : Finset (Fin 16)).biUnion (fun s => tileSet c.val s.val) = coreSet c.val := by
  ext k
  have hc := c.isLt
  have hk : (k 0).val < 131072 := (k 0).isLt
  simp only [Finset.mem_biUnion, Finset.mem_univ, true_and, mem_rowsSet, mem_coreSet]
  constructor
  · rintro ⟨s, h⟩; omega
  · intro h
    exact ⟨⟨(k 0).val / 8192, by omega⟩, by show 32 * (2 * ((k 0).val / 8192) + c.val) ≤ _ ∧ _ < 32 * (2 * ((k 0).val / 8192) + c.val) + 32; omega⟩

theorem cores_disjoint : ∀ s ∈ (Finset.univ : Finset (Fin 2)), ∀ t ∈ (Finset.univ : Finset (Fin 2)), s ≠ t →
    Disjoint (coreSet s.val) (coreSet t.val) := fun s _ t _ h => by
  have : s.val ≠ t.val := fun e => h (Fin.ext e)
  refine Finset.disjoint_left.mpr fun k hk hk' => ?_
  rw [mem_coreSet] at hk hk'
  omega

theorem cores_cover : (Finset.univ : Finset (Fin 2)).biUnion (fun c => coreSet c.val) = Finset.univ := by
  ext k
  simp only [Finset.mem_biUnion, Finset.mem_univ, true_and, mem_coreSet, iff_true]
  exact ⟨⟨(k 0).val / 4096 % 2, Nat.mod_lt _ (by decide)⟩, rfl⟩

variable [FloatOps F]

/-! ## What the handshakes carry -/

/-- The result: the mask of the operand. -/
abbrev G (d : Dev nD) : Buf (Elt F) (yLoc d) := maskAt (F := F) (n := 131072) (m (xLoc d))

abbrev xPts (d : Dev nD) (I : Finset S131072x128.Idx) : sProp 𝕄 := xLoc d ↦[I]{fullShare} m (xLoc d)
abbrev yPts (d : Dev nD) (I : Finset S131072x128.Idx) (f : Buf (Elt F) (yLoc d)) : sProp 𝕄 := yLoc d ↦[I]{fullShare} f

def P : (K (F := F)).Pay (nD := nD) (Val := Elt F) (Name := ℕ) (U := UU) where
  st := fun q d c => match q with | 0 => iprop(xPts m d (coreSet c.val) ∗ yPts d (coreSet c.val) (m (yLoc d)))
  dn := fun q d c => match q with | 0 => iprop(xPts m d (coreSet c.val) ∗ yPts d (coreSet c.val) (G m d))
  go := fun q d c s => match q with | 0 => iprop(xPts m d (tileSet c.val s.val) ∗ yPts d (tileSet c.val s.val) (m (yLoc d)))
  td := fun q d c s => match q with | 0 => iprop(xPts m d (tileSet c.val s.val) ∗ yPts d (tileSet c.val s.val) (G m d))
  x := fun _ _ => iprop(emp)

instance P_storable : (P (F := F) m).IsStorable where
  st q d c := match q with
    | 0 => (inferInstance : BI.Storable (upEmb : UEmb _ 𝕄) iprop(xPts m d (coreSet c.val) ∗ yPts d (coreSet c.val) (m (yLoc d))))
  dn q d c := match q with
    | 0 => (inferInstance : BI.Storable (upEmb : UEmb _ 𝕄) iprop(xPts m d (coreSet c.val) ∗ yPts d (coreSet c.val) (G m d)))
  go q d c s := match q with
    | 0 => (inferInstance : BI.Storable (upEmb : UEmb _ 𝕄) iprop(xPts m d (tileSet c.val s.val) ∗ yPts d (tileSet c.val s.val) (m (yLoc d))))
  td q d c s := match q with
    | 0 => (inferInstance : BI.Storable (upEmb : UEmb _ 𝕄) iprop(xPts m d (tileSet c.val s.val) ∗ yPts d (tileSet c.val s.val) (G m d)))

/-! ## A tile's rows are its chunks -/

section Tile

variable (d : Dev nD) (i : grid0.Coords)

theorem chunk_rows (c : Nat) (hc : c < 32) (off : Fin 2 → Nat) (e : off = ![8192 * (i 1).val + 4096 * (i 0).val + 128 * c, 0])
    (h : ∀ a, off a + S128x128.size a ≤ S131072x128.size a) :
    (Rect.unit (s := S131072x128) off S128x128.size h).set = rowsSet (32 * (2 * (i 1).val + (i 0).val) + c) (32 * (2 * (i 1).val + (i 0).val) + c + 1) := by
  subst e
  ext k
  have h1 : (k 1).val < 128 := (k 1).isLt
  rw [Rect.mem_set_unit, mem_rowsSet]
  constructor
  · intro hall
    have h0 := hall 0
    simp at h0
    omega
  · intro hk a
    match a with
    | 0 => show 8192 * (i 1).val + 4096 * (i 0).val + 128 * c ≤ (k 0).val ∧ (k 0).val < 8192 * (i 1).val + 4096 * (i 0).val + 128 * c + 128; omega
    | 1 => show 0 ≤ (k 1).val ∧ (k 1).val < 0 + 128; omega

theorem xP_eq (c : Nat) (hc : c < 32) (f : Buf (Elt F) (xLoc d)) :
    (xP d i xV f c : sProp 𝕄) = xLoc d ↦[rowsSet (32 * (2 * (i 1).val + (i 0).val) + c) (32 * (2 * (i 1).val + (i 0).val) + c + 1)]{fullShare} f := by
  rw [xP, dif_pos hc, ← chunk_rows i c hc _ (xoff_eq i c hc) (xoff_inb i c hc)]
  rw [show (xs xV i c hc).view.set = (Rect.unit (s := S131072x128) (xoff i c) S128x128.size (xoff_inb i c hc)).set from View.set_slice_whole _ _]

theorem yP_eq (c : Nat) (hc : c < 32) (f : Buf (Elt F) (yLoc d)) :
    (yP d i yV f c : sProp 𝕄) = yLoc d ↦[rowsSet (32 * (2 * (i 1).val + (i 0).val) + c) (32 * (2 * (i 1).val + (i 0).val) + c + 1)]{fullShare} f := by
  rw [yP, dif_pos hc, ← chunk_rows i c hc _ (k0_off2_eq i ⟨c, hc⟩) (k0_off2_inb i ⟨c, hc⟩)]
  rw [show (ys yV i c hc).view.set = (Rect.unit (s := S131072x128) (k0_off2 i (BitVec.ofNat 32 (128 * c))) S128x128.size (k0_off2_inb i ⟨c, hc⟩)).set from View.set_slice_whole _ _]

theorem seg_rows (ℓ : Loc nD τ sig) (S : Nat → Nat → Finset (Idx ℓ)) (f : Buf (Elt F) ℓ) (a : Nat)
    (h0 : ∀ b, S b b = ∅) (hd : ∀ b c e, Disjoint (S b c) (S c e)) (hu : ∀ b n, S b (b + 1) ∪ S (b + 1) (b + 1 + n) = S b (b + 1 + n))
    (Φ : Nat → sProp 𝕄) (hΦ : ∀ c < 32, Φ c = (ℓ ↦[S (a + c) (a + c + 1)]{fullShare} f : sProp 𝕄)) :
    ∀ n c, c + n ≤ 32 → seg Φ n c = (ℓ ↦[S (a + c) (a + c + n)]{fullShare} f : sProp 𝕄)
  | 0, c, _ => by
    rw [Nat.add_zero, h0, pointsTo_empty]; rfl
  | n + 1, c, h => by
    rw [seg_succ, hΦ c (by omega), seg_rows ℓ S f a h0 hd hu Φ hΦ n (c + 1) (by omega)]
    have e := hu (a + c) n
    rw [show a + c + (n + 1) = a + c + 1 + n by omega, ← e]
    exact (BI.equiv_iff.mp ⟨(pointsTo_union (hd _ _ _)).1, (pointsTo_union (hd _ _ _)).2⟩).symm

theorem rows_union (b n : Nat) : rowsSet b (b + 1) ∪ rowsSet (b + 1) (b + 1 + n) = rowsSet b (b + 1 + n) := by
  ext k; rw [Finset.mem_union, mem_rowsSet, mem_rowsSet, mem_rowsSet]; omega

theorem rows_apart (b c e : Nat) : Disjoint (rowsSet b c) (rowsSet c e) :=
  Finset.disjoint_left.mpr fun k hk hk' => by rw [mem_rowsSet] at hk hk'; omega

theorem rows_none (b : Nat) : rowsSet b b = ∅ :=
  Finset.eq_empty_of_forall_notMem fun k hk => by rw [mem_rowsSet] at hk; omega

theorem xSeg_eq (f : Buf (Elt F) (xLoc d)) :
    (seg (xP d i xV f) 32 0 : sProp 𝕄) = xLoc d ↦[tileSet (i 0).val (i 1).val]{fullShare} f :=
  seg_rows (xLoc d) rowsSet f (32 * (2 * (i 1).val + (i 0).val)) rows_none rows_apart rows_union _ (fun c hc => xP_eq d i c hc f) 32 0 (by decide)

theorem ySeg_eq (f : Buf (Elt F) (yLoc d)) :
    (seg (yP d i yV f) 32 0 : sProp 𝕄) = yLoc d ↦[tileSet (i 0).val (i 1).val]{fullShare} f :=
  seg_rows (yLoc d) rowsSet f (32 * (2 * (i 1).val + (i 0).val)) rows_none rows_apart rows_union _ (fun c hc => yP_eq d i c hc f) 32 0 (by decide)

theorem gy_eq (f : Buf (Elt F) (yLoc d)) : gy d i xV yV (m (xLoc d)) f = G m d :=
  View.write_whole_univ _ _ _

/-! ## A tile's buffers and semaphores -/

/-- The buffers and semaphores of the one call. -/
abbrev bufs : Bufs :=
  ⟨fun b => match b with | 0 => Memref.whole cc0_scratch0 | 1 => Memref.whole cc0_scratch1,
    fun b => match b with | 0 => Memref.whole cc0_scratch2 | 1 => Memref.whole cc0_scratch3,
    fun b => match b with | 0 => cc0_scratch4 | 1 => cc0_scratch5, fun b => match b with | 0 => cc0_scratch6 | 1 => cc0_scratch7,
    fun b => match b with | 0 => Memref.isWhole_whole _ | 1 => Memref.isWhole_whole _,
    fun b => match b with | 0 => Memref.isWhole_whole _ | 1 => Memref.isWhole_whole _⟩

/-- A semaphore of the tile. -/
abbrev cell (s : DmaSems sig S_) : GSem nD τ sig := (th d i, .dma s.sem)

/-- A buffer of the tile, at some contents. -/
abbrev some_ (b : Ref sig .scVector) : sProp 𝕄 := iprop(∃ f, (th d i).loc b ↦{fullShare} f)

theorem cell_mem (s : DmaSems sig S_) (h : (SemLoc.dma s.sem : SemLoc sig).isScoped .scVector = true) : cell d i s ∈ ownCells (th d i) :=
  mem_ownCells.mpr ⟨rfl, h⟩

theorem cell_ne (s t : DmaSems sig S_) (h : s.sem ≠ t.sem) : cell d i s ≠ cell d i t := fun e =>
  h (SemLoc.dma.inj (congrArg Prod.snd e))

theorem ownSems0_tile :
    ∃ R : sProp 𝕄, (ownSems0 (th d i) : sProp 𝕄)
      = iprop(semVal (cell d i cc0_scratch4) 0 ∗ semVal (cell d i cc0_scratch5) 0 ∗ semVal (cell d i cc0_scratch6) 0
          ∗ semVal (cell d i cc0_scratch7) 0 ∗ R) := by
  unfold SparseCore.Cfg.ownSems0
  rw [SparseCore.bigSep_erase' (cell_mem d i cc0_scratch4 (by decide)),
    SparseCore.bigSep_erase' (Finset.mem_erase.mpr ⟨cell_ne d i cc0_scratch5 cc0_scratch4 (by decide), cell_mem d i cc0_scratch5 (by decide)⟩),
    SparseCore.bigSep_erase' (Finset.mem_erase.mpr ⟨cell_ne d i cc0_scratch6 cc0_scratch5 (by decide), Finset.mem_erase.mpr
      ⟨cell_ne d i cc0_scratch6 cc0_scratch4 (by decide), cell_mem d i cc0_scratch6 (by decide)⟩⟩),
    SparseCore.bigSep_erase' (Finset.mem_erase.mpr ⟨cell_ne d i cc0_scratch7 cc0_scratch6 (by decide), Finset.mem_erase.mpr
      ⟨cell_ne d i cc0_scratch7 cc0_scratch5 (by decide), Finset.mem_erase.mpr
        ⟨cell_ne d i cc0_scratch7 cc0_scratch4 (by decide), cell_mem d i cc0_scratch7 (by decide)⟩⟩⟩)]
  exact ⟨_, rfl⟩

theorem buf_mem (b : Ref sig .scVector) (h : ((Proc.scVector ((i 0).castLE hcore0) ((i 1).castLE hsub0)).devRef b).owner = .proc (.scVector ((i 0).castLE hcore0) ((i 1).castLE hsub0))) :
    ((Proc.scVector ((i 0).castLE hcore0) ((i 1).castLE hsub0)).devRef b : DevRef τ sig) ∈ ownRefs (τ := τ) (.scVector ((i 0).castLE hcore0) ((i 1).castLE hsub0)) :=
  SparseCore.Cfg.mem_ownRefs_of_owner h

theorem buf_ne (b c : Ref sig .scVector) (h : b ≠ c) :
    ((Proc.scVector ((i 0).castLE hcore0) ((i 1).castLE hsub0)).devRef b : DevRef τ sig) ≠ (Proc.scVector ((i 0).castLE hcore0) ((i 1).castLE hsub0)).devRef c :=
  fun e => h (Proc.devRef_injective _ e)

theorem ownBufs_tile :
    ∃ R : sProp 𝕄, (ownBufs (th d i) : sProp 𝕄)
      = iprop(some_ d i cc0_scratch0 ∗ some_ d i cc0_scratch1 ∗ some_ d i cc0_scratch2 ∗ some_ d i cc0_scratch3 ∗ R) := by
  unfold SparseCore.Cfg.ownBufs
  rw [SparseCore.bigSep_erase' (buf_mem i cc0_scratch0 rfl),
    SparseCore.bigSep_erase' (Finset.mem_erase.mpr ⟨buf_ne i cc0_scratch1 cc0_scratch0 (by decide), buf_mem i cc0_scratch1 rfl⟩),
    SparseCore.bigSep_erase' (Finset.mem_erase.mpr ⟨buf_ne i cc0_scratch2 cc0_scratch1 (by decide), Finset.mem_erase.mpr
      ⟨buf_ne i cc0_scratch2 cc0_scratch0 (by decide), buf_mem i cc0_scratch2 rfl⟩⟩),
    SparseCore.bigSep_erase' (Finset.mem_erase.mpr ⟨buf_ne i cc0_scratch3 cc0_scratch2 (by decide), Finset.mem_erase.mpr
      ⟨buf_ne i cc0_scratch3 cc0_scratch1 (by decide), Finset.mem_erase.mpr ⟨buf_ne i cc0_scratch3 cc0_scratch0 (by decide), buf_mem i cc0_scratch3 rfl⟩⟩⟩)]
  exact ⟨_, rfl⟩

/-- The four buffer and semaphore pairs at rest. -/
theorem allFree_eq :
    (AllFree d i bufs : sProp 𝕄)
      = iprop((some_ d i cc0_scratch0 ∗ semVal (cell d i cc0_scratch4) 0) ∗ (some_ d i cc0_scratch1 ∗ semVal (cell d i cc0_scratch5) 0)
          ∗ (some_ d i cc0_scratch2 ∗ semVal (cell d i cc0_scratch6) 0) ∗ (some_ d i cc0_scratch3 ∗ semVal (cell d i cc0_scratch7) 0)) := by
  unfold AllFree Free bufPts
  show iprop(((∃ f, (th d i).loc cc0_scratch0 ↦[(View.whole cc0_scratch0).set]{fullShare} f) ∗ semVal (cell d i cc0_scratch4) 0)
    ∗ ((∃ f, (th d i).loc cc0_scratch1 ↦[(View.whole cc0_scratch1).set]{fullShare} f) ∗ semVal (cell d i cc0_scratch5) 0)
    ∗ ((∃ f, (th d i).loc cc0_scratch2 ↦[(View.whole cc0_scratch2).set]{fullShare} f) ∗ semVal (cell d i cc0_scratch6) 0)
    ∗ ((∃ f, (th d i).loc cc0_scratch3 ↦[(View.whole cc0_scratch3).set]{fullShare} f) ∗ semVal (cell d i cc0_scratch7) 0)) = _
  rw [View.set_whole, View.set_whole, View.set_whole, View.set_whole]

theorem tile_body (hF : (K (F := F)).Facts) (O : CellTallies nD τ sig (HIx 1)) (W : Waits sig (HIx 1)) (hO : ∀ g, O g none = 0) :
    iprop(levAts (K (F := F)).L (K (F := F)).lev ∗ emp
        ∗ (xPts m d (tileSet (i 0).val (i 1).val) ∗ yPts d (tileSet (i 0).val (i 1).val) (m (yLoc d)))
        ∗ scopedBufs (th d i) ∗ scopedSems0 (th d i) ∗ owes (th d i) O W)
      ⊢ wpT d i
          (cc0__sc_topk_mask i xV (Memref.isWhole_whole _) yV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop((xPts m d (tileSet (i 0).val (i 1).val) ∗ yPts d (tileSet (i 0).val (i 1).val) (G m d))
            ∗ scopedBufs (th d i) ∗ scopedSems0 (th d i)
            ∗ ∃ W', ⌜∀ p ∈ W', p ∈ W ∨ p.2 = none ∨ p.2 = some (0 : Fin 1)⌝ ∗ owes (th d i) O W') := by
  obtain ⟨R, hR⟩ := ownSems0_tile (F := F) d i
  obtain ⟨R', hR'⟩ := ownBufs_tile (F := F) d i
  rw [(K (F := F)).scopedBufs_V hF d _ _, SparseCore.Cfg.scopedSems0_V (Val := Elt F) d _ _, hR, hR', body_eq]
  have hs := tile_spec (F := F) d i xV yV bufs (m (xLoc d)) (m (yLoc d)) O
    (fun _ => iprop((xPts m d (tileSet (i 0).val (i 1).val) ∗ yPts d (tileSet (i 0).val (i 1).val) (G m d))
      ∗ (some_ d i cc0_scratch0 ∗ some_ d i cc0_scratch1 ∗ some_ d i cc0_scratch2 ∗ some_ d i cc0_scratch3 ∗ R')
      ∗ (semVal (cell d i cc0_scratch4) 0 ∗ semVal (cell d i cc0_scratch5) 0 ∗ semVal (cell d i cc0_scratch6) 0 ∗ semVal (cell d i cc0_scratch7) 0 ∗ R)
      ∗ ∃ W', ⌜∀ p ∈ W', p ∈ W ∨ p.2 = none ∨ p.2 = some (0 : Fin 1)⌝ ∗ owes (th d i) O W'))
  rw [allFree_eq, xSeg_eq, ySeg_eq, ySeg_eq, gy_eq] at hs
  unfold Owes at hs
  iintro ⟨#Hlv, -, ⟨Hx, Hy⟩, ⟨H0, H1, H2, H3, HR'⟩, ⟨S4, S5, S6, S7, HR⟩, HO⟩
  ihave Hmw := (show levAts (K (F := F)).L (K (F := F)).lev ⊢ Transfers.MayWaits (th d i) (default : HIx 1) O from
    (K (F := F)).mayWaits_none (thr := th d i) hO) $$ Hlv
  iapply hs $$ [H0 H1 H2 H3 S4 S5 S6 S7 Hx Hy HO Hmw]
  · isplitl [H0 H1 H2 H3 S4 S5 S6 S7]
    · isplitl [H0 S4]; · isplitl [H0] <;> iassumption
      isplitl [H1 S5]; · isplitl [H1] <;> iassumption
      isplitl [H2 S6]; · isplitl [H2] <;> iassumption
      isplitl [H3] <;> iassumption
    isplitl [Hx]; · iexact Hx
    isplitl [Hy]; · iexact Hy
    isplitl [HO]; · iexists W; iexact HO
    iexact Hmw
  iintro ⟨⟨⟨H0, S4⟩, ⟨H1, S5⟩, ⟨H2, S6⟩, ⟨H3, S7⟩⟩, Hx, Hy, ⟨%W', HO⟩⟩
  isplitl [Hx Hy]; · isplitl [Hx] <;> iassumption
  isplitl [H0 H1 H2 H3 HR']
  · isplitl [H0]; · iexact H0
    isplitl [H1]; · iexact H1
    isplitl [H2]; · iexact H2
    isplitl [H3] <;> iassumption
  isplitl [S4 S5 S6 S7 HR]
  · isplitl [S4]; · iexact S4
    isplitl [S5]; · iexact S5
    isplitl [S6]; · iexact S6
    isplitl [S7] <;> iassumption
  iexists W'; isplitr
  swap; · iexact HO
  ipureintro; intro p _
  rcases p.2 with _ | q
  · exact .inr (.inl rfl)
  · exact .inr (.inr (congrArg some (Subsingleton.elim q 0)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_topk_mask (coordsV c s)
          xV (Memref.isWhole_whole _) yV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The rows split and join -/

theorem core_split (ℓ : Loc nD τ sig) (S : Fin 2 → Fin 16 → Finset (Idx ℓ)) (T : Fin 2 → Finset (Idx ℓ)) (f : Buf (Elt F) ℓ)
    (hd : ∀ c, ∀ s ∈ (Finset.univ : Finset (Fin 16)), ∀ t ∈ (Finset.univ : Finset (Fin 16)), s ≠ t → Disjoint (S c s) (S c t))
    (hu : ∀ c, (Finset.univ : Finset (Fin 16)).biUnion (S c) = T c) (c : Fin 2) :
    (ℓ ↦[T c]{fullShare} f : sProp 𝕄) = bigSep (Finset.univ : Finset (Fin 16)) fun s => ℓ ↦[S c s]{fullShare} f := by
  rw [← pointsTo_biUnion Finset.univ (ℓ := ℓ) (S c) (hd c), hu]

theorem x_split (d : Dev nD) (c : Fin 2) (f : Buf (Elt F) (xLoc d)) :
    (xLoc d ↦[coreSet c.val]{fullShare} f : sProp 𝕄) = bigSep (Finset.univ : Finset (Fin 16)) fun s => xLoc d ↦[tileSet c.val s.val]{fullShare} f :=
  core_split (xLoc d) (fun c s => tileSet c.val s.val) (fun c => coreSet c.val) f tiles_disjoint tiles_cover c

theorem y_split (d : Dev nD) (c : Fin 2) (f : Buf (Elt F) (yLoc d)) :
    (yLoc d ↦[coreSet c.val]{fullShare} f : sProp 𝕄) = bigSep (Finset.univ : Finset (Fin 16)) fun s => yLoc d ↦[tileSet c.val s.val]{fullShare} f :=
  core_split (yLoc d) (fun c s => tileSet c.val s.val) (fun c => coreSet c.val) f tiles_disjoint tiles_cover c

theorem vecSplit : (K (F := F)).VecSplit' (P m) 0 := by
  intro d (c : Fin 2)
  show iprop(xPts m d (coreSet c.val) ∗ yPts d (coreSet c.val) (m (yLoc d))) ⊢ |={Set.univ}=> iprop(
      (bigSep (Finset.univ : Finset (Fin 16)) fun s => iprop(xPts m d (tileSet c.val s.val) ∗ yPts d (tileSet c.val s.val) (m (yLoc d))))
      ∗ ((bigSep (Finset.univ : Finset (Fin 16)) fun s => iprop(xPts m d (tileSet c.val s.val) ∗ yPts d (tileSet c.val s.val) (G m d)))
          -∗ iprop(xPts m d (coreSet c.val) ∗ yPts d (coreSet c.val) (G m d))))
  rw [bigSep_sep', bigSep_sep']
  unfold xPts yPts
  rw [x_split, y_split, y_split]
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

theorem unscopedBufs_eq (d : Dev nD) (W : (b : Ref sig .tc) → Buf (Elt F) ((d.tc : Thread nD τ).loc b)) :
    (unscopedBufs d W : sProp 𝕄) = iprop((xLoc d ↦{fullShare} W main_arg0) ∗ yLoc d ↦{fullShare} W main_v0) := by
  unfold unscopedBufs
  rw [show (Finset.univ.filter fun b : Ref sig .tc => ¬ b.isScoped) = {main_arg0, main_v0} by decide,
    SparseCore.bigSep_insert' (by decide), bigSep_singleton]

theorem halves (ℓ : Loc nD τ sig) (T : Fin 2 → Finset (Idx ℓ)) (f : Buf (Elt F) ℓ)
    (hd : ∀ s ∈ (Finset.univ : Finset (Fin 2)), ∀ t ∈ (Finset.univ : Finset (Fin 2)), s ≠ t → Disjoint (T s) (T t))
    (hu : (Finset.univ : Finset (Fin 2)).biUnion T = Finset.univ) :
    (bigSep (Finset.univ : Finset (Fin 2)) fun c => ℓ ↦[T c]{fullShare} f : sProp 𝕄) = ℓ ↦{fullShare} f := by
  rw [← pointsTo_biUnion Finset.univ (ℓ := ℓ) T hd, hu]

theorem x_halves (d : Dev nD) (f : Buf (Elt F) (xLoc d)) :
    (bigSep (Finset.univ : Finset (Fin 2)) fun c => xLoc d ↦[coreSet c.val]{fullShare} f : sProp 𝕄) = xLoc d ↦{fullShare} f :=
  halves (xLoc d) (fun c => coreSet c.val) f cores_disjoint cores_cover

theorem y_halves (d : Dev nD) (f : Buf (Elt F) (yLoc d)) :
    (bigSep (Finset.univ : Finset (Fin 2)) fun c => yLoc d ↦[coreSet c.val]{fullShare} f : sProp 𝕄) = yLoc d ↦{fullShare} f :=
  halves (yLoc d) (fun c => coreSet c.val) f cores_disjoint cores_cover

theorem st0_eq (d : Dev nD) :
    (bigSep Finset.univ fun c : Fin ((K (F := F)).nCore 0) => (P m).st 0 d c)
      = iprop((xLoc d ↦{fullShare} m (xLoc d)) ∗ yLoc d ↦{fullShare} m (yLoc d)) := by
  show (bigSep (Finset.univ : Finset (Fin 2)) fun c => iprop(xPts m d (coreSet c.val) ∗ yPts d (coreSet c.val) (m (yLoc d)))) = _
  rw [bigSep_sep', x_halves, y_halves]

theorem dn0_eq (d : Dev nD) :
    (bigSep Finset.univ fun c : Fin ((K (F := F)).nCore 0) => (P m).dn 0 d c)
      = iprop((xLoc d ↦{fullShare} m (xLoc d)) ∗ yLoc d ↦{fullShare} G m d) := by
  show (bigSep (Finset.univ : Finset (Fin 2)) fun c => iprop(xPts m d (coreSet c.val) ∗ yPts d (coreSet c.val) (G m d))) = _
  rw [bigSep_sep', x_halves, y_halves]

abbrev FIN (d : Dev nD) : sProp 𝕄 := iprop((xLoc d ↦{fullShare} m (xLoc d)) ∗ yLoc d ↦{fullShare} G m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hy⟩, Hts, -⟩, -⟩
  iapply ((K (F := F)).wp_run (D (F := F)) 𝒱 (EH := EH) (P := P m) κ d 0) $$ [Hst Hx Hy Hb Hts]
  isplitr; · iexact Hctx
  isplitl [Hst]; · iexact Hst
  isplitl [Hx Hy]
  · rw [st0_eq]
    isplitl [Hx]; · iexact Hx
    iexact Hy
  iintro ⟨Hst, Hdn⟩
  ihave Hdn' := (Entails.of_eq (dn0_eq m d)) $$ Hdn
  icases Hdn' with ⟨Hx, Hy⟩
  imodintro
  isplitl [Hst]; · iexact Hst
  isplitr [Hb Hts]
  · isplitl [Hx]; · iexact Hx
    iexact Hy
  isplitl [Hb] <;> iassumption

def fq (d : Dev nD) (s' : Phys nD τ sig (Elt F)) : Prop := s'.mem.mem (xLoc d) = m (xLoc d) ∧ s'.mem.mem (yLoc d) = G m d

theorem hfin (d : Dev nD) (s' : Phys nD τ sig (Elt F)) : iprop(FIN m d ∗ SI s') ⊢ (⌜fq m d s'⌝ : sProp 𝕄) := by
  iintro ⟨⟨Hx, Hy⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := yLoc d) (I := Finset.univ) (q := fullShare) (f := G m d)) $$ [HSI Hy]
  · isplitl [HSI] <;> iassumption
  icases H with %hy
  ipureintro; exact ⟨funext fun i => hx i (Finset.mem_univ i), funext fun i => hy i (Finset.mem_univ i)⟩

/-! ## The run and the frame -/

def QC : PUnit × MemSt nD τ sig (Elt F) → Prop := fun r =>
  (∀ c : Dev nD, r.2.mem (xLoc c) = m (xLoc c) ∧ r.2.mem (yLoc c) = G m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The kernel's run leaves its operand unchanged and its semaphores at zero. -/
theorem frame : Cert.quiescent_KernelIdeal := fun m ρ _ =>
  (θ_run Cert.KernelIdeal.defs _ _).mono (fun _ h => ⟨fun c => (h.1 c).1, h.2⟩) (run_main m ρ)

end Cert.KernelIdeal.Topk
-- ==== Proof.Count.lean ====
module

public import proofs.«01_k».proof.Proof.Pure
public import Idealize.ShloMosaic.Lib.SortFacts

/-!
# Order statistics by counting

For a bound `c`, how many of the values are at least `c`. The value at position `k` of a sorted group is at least `c` exactly
when enough of the values are; the sixteen greatest of two groups, and the sixteenth greatest of a row, are read the same way.
-/

@[expose] public section
noncomputable section
namespace Cert.Topk
open Idealize.ShloMosaic

section Order
variable {α : Type} [LinearOrder α] {n : Nat}

/-- How many of the values are at least `c`. -/
def cnt (v : Fin n → α) (c : α) : Nat := (Finset.univ.filter fun i => c ≤ v i).card
/-- How many of the values are less than value `i`. -/
def below (v : Fin n → α) (i : Fin n) : Nat := (Finset.univ.filter fun j => v j < v i).card
/-- How many of the values are greater than value `i`. -/
def above (v : Fin n → α) (i : Fin n) : Nat := (Finset.univ.filter fun j => v i < v j).card

theorem cnt_add (v : Fin n → α) (c : α) : cnt v c + (Finset.univ.filter fun i => v i < c).card = n := by
  have h := Finset.card_filter_add_card_filter_not (s := (Finset.univ : Finset (Fin n))) (fun i => c ≤ v i)
  simpa [cnt, not_le] using h

/-- Some value of rank at most `k` from below is at least `c` when all but `k` of the values are. -/
theorem up_iff (v : Fin n → α) (c : α) (k : Nat) (hk : k < n) : (∃ i, below v i ≤ k ∧ c ≤ v i) ↔ n ≤ k + cnt v c := by
  have e := cnt_add v c
  constructor
  · rintro ⟨i, hi, hc⟩
    have : (Finset.univ.filter fun j => v j < c).card ≤ below v i :=
      Finset.card_le_card fun j hj => by
        simp only [Finset.mem_filter, Finset.mem_univ, true_and] at hj ⊢
        exact lt_of_lt_of_le hj hc
    omega
  · intro h
    have hne : (Finset.univ.filter fun i => c ≤ v i).Nonempty := Finset.card_pos.mp (show 0 < cnt v c by omega)
    obtain ⟨i, hi, hmin⟩ := Finset.exists_min_image _ v hne
    simp only [Finset.mem_filter, Finset.mem_univ, true_and] at hi hmin
    refine ⟨i, ?_, hi⟩
    have : below v i ≤ (Finset.univ.filter fun j => v j < c).card :=
      Finset.card_le_card fun j hj => by
        simp only [Finset.mem_filter, Finset.mem_univ, true_and] at hj ⊢
        by_contra hc
        exact absurd hj (not_lt.mpr (hmin j (not_lt.mp hc)))
    omega

/-- Every value of rank at most `k` from above is at least `c` when more than `k` of the values are. -/
theorem down_iff (v : Fin n → α) (c : α) (k : Nat) (hk : k < n) : (∀ i, above v i ≤ k → c ≤ v i) ↔ k < cnt v c := by
  have e := cnt_add v c
  constructor
  · intro h
    by_contra hlt
    have hne : (Finset.univ.filter fun i => v i < c).Nonempty := Finset.card_pos.mp (by omega)
    obtain ⟨i, hi, hmax⟩ := Finset.exists_max_image _ v hne
    simp only [Finset.mem_filter, Finset.mem_univ, true_and] at hi hmax
    have : above v i ≤ cnt v c :=
      Finset.card_le_card fun j hj => by
        simp only [Finset.mem_filter, Finset.mem_univ, true_and] at hj ⊢
        by_contra hc
        exact absurd hj (not_lt.mpr (hmax j (not_le.mp hc)))
    exact absurd hi (not_lt.mpr (h i (by omega)))
  · intro h i hi
    by_contra hc
    have : cnt v c ≤ above v i :=
      Finset.card_le_card fun j hj => by
        simp only [Finset.mem_filter, Finset.mem_univ, true_and] at hj ⊢
        exact lt_of_lt_of_le (not_le.mp hc) hj
    omega

/-- The value at position `k` of a descending row is at least `c` when more than `k` of the row's values are. -/
theorem antitone_iff (f : Fin n → α) (hf : ∀ i j, i < j → f j ≤ f i) (k : Fin n) (c : α) : c ≤ f k ↔ k.val < cnt f c := by
  have hle : ∀ i j, i ≤ j → f j ≤ f i := fun i j h => (eq_or_lt_of_le h).elim (fun e => le_of_eq (by rw [e])) (hf i j)
  constructor
  · intro h
    have : (Finset.Iic k).card ≤ cnt f c := Finset.card_le_card fun j hj => by
      simp only [Finset.mem_Iic, Finset.mem_filter, Finset.mem_univ, true_and] at hj ⊢
      exact le_trans h (hle j k hj)
    rw [Fin.card_Iic] at this
    omega
  · intro h
    by_contra hc
    have : cnt f c ≤ (Finset.Iio k).card := Finset.card_le_card fun j hj => by
      simp only [Finset.mem_Iio, Finset.mem_filter, Finset.mem_univ, true_and] at hj ⊢
      by_contra hjk
      exact hc (le_trans hj (hle k j (not_lt.mp hjk)))
    rw [Fin.card_Iio] at this
    omega

theorem cnt_comp (v : Fin n → α) (σ : Fin n → Fin n) (hσ : Function.Bijective σ) (c : α) : cnt (fun i => v (σ i)) c = cnt v c := by
  unfold cnt
  rw [Finset.card_filter, Finset.card_filter]
  exact hσ.sum_comp fun i => if c ≤ v i then 1 else 0

end Order

theorem card_or_small : ∀ a < 17, ∀ b < 17, (Finset.univ.filter fun k : Fin 16 => 16 ≤ k.val + a ∨ k.val < b).card = min 16 (a + b) := by
  decide +kernel

theorem card_or (a b : Nat) : (Finset.univ.filter fun k : Fin 16 => 16 ≤ k.val + a ∨ k.val < b).card = min 16 (a + b) := by
  rw [show min 16 (a + b) = min 16 (min 16 a + min 16 b) by omega, ← card_or_small (min 16 a) (by omega) (min 16 b) (by omega)]
  congr 1
  ext k
  have := k.isLt
  simp only [Finset.mem_filter, Finset.mem_univ, true_and]
  omega

section Sorted
variable {α : Type} [LinearOrder α]

/-- The values in ascending order, `p c` of sixteen being at least `c`. -/
def UpOf (a : Fin 16 → α) (p : α → Nat) : Prop := ∀ k c, c ≤ a k ↔ 16 ≤ k.val + p c
/-- The values in descending order, `p c` of sixteen being at least `c`. -/
def DownOf (a : Fin 16 → α) (p : α → Nat) : Prop := ∀ k c, c ≤ a k ↔ k.val < p c

/-- The greater of an ascending and a descending group, position by position: the sixteen greatest of both. -/
theorem cnt_max {a b : Fin 16 → α} {p q : α → Nat} (ha : UpOf a p) (hb : DownOf b q) (c : α) :
    cnt (fun k => max (a k) (b k)) c = min 16 (p c + q c) := by
  rw [← card_or]
  unfold cnt
  congr 1
  ext k
  simp only [Finset.mem_filter, Finset.mem_univ, true_and, le_max_iff, ha k c, hb k c]

end Sorted

end Cert.Topk
-- ==== Proof.Reading.lean ====
module

public import proofs.«01_k».proof.Proof.Count
public import Idealize.ShloMosaic.Lib.Pipeline.Value
public import Idealize.ShloMosaic.Lib.IdealHost
public import Idealize.ShloMosaic.PureOps.Ideal

/-!
# The row's threshold, read at the extended reals

The ranks are counts, so the rank sort puts at position `k` a value that is at least `c` exactly when enough of the group's
values are; merging keeps the count of the sixteen greatest; so the threshold of a row is at least `c` exactly when sixteen of
the row's 128 values are.
-/

@[expose] public section
noncomputable section
namespace Cert.Topk
open Idealize.ShloMosaic
open Idealize.ShloMosaic.ValueIdx (ix1 ix2 eq_ix1 eq_ix2)

/-- Sixteen values folded by halves. -/
def tree {α : Type} (g : α → α → α) (X : Fin 16 → α) : α :=
  g (g (g (g (X 0) (X 8)) (g (X 4) (X 12))) (g (g (X 2) (X 10)) (g (X 6) (X 14))))
    (g (g (g (X 1) (X 9)) (g (X 5) (X 13))) (g (g (X 3) (X 11)) (g (X 7) (X 15))))

theorem tree_congr {α : Type} (g : α → α → α) {X Y : Fin 16 → α} (h : ∀ i, X i = Y i) : tree g X = tree g Y := by
  rw [funext h]

section Fold
variable {α : Type} {op : ∀ {s : Shape}, (s.Idx → α) → (s.Idx → α) → (s.Idx → α)} {g : α → α → α}

theorem slice_rows {m n : Nat} (o : Nat) (x : (⟨2, ![m, 16]⟩ : Shape).Idx → α)
    (h : (⟨2, ![m, 16]⟩ : Shape).Slices ![o, 0] ⟨2, ![n, 16]⟩) (i : Fin n) (k : Fin 16) (j : Fin m) (hj : j.val = o + i.val) :
    extractStridedSlice ⟨2, ![n, 16]⟩ ![o, 0] x h (ix2 i k) = x (ix2 j k) :=
  extractStridedSlice_apply _ _ _ _ _ fun a => by
    match a with
    | 0 => exact hj
    | 1 => exact (Nat.zero_add _).symm

theorem slice_group {m n : Nat} (o : Nat) (x : (⟨1, ![m]⟩ : Shape).Idx → α)
    (h : (⟨1, ![m]⟩ : Shape).Slices ![o] ⟨1, ![n]⟩) (i : Fin n) (j : Fin m) (hj : j.val = o + i.val) :
    extractStridedSlice ⟨1, ![n]⟩ ![o] x h (ix1 i) = x (ix1 j) :=
  extractStridedSlice_apply _ _ _ _ _ fun a => by
    match a with
    | 0 => exact hj

theorem foldRows_apply (hop : ∀ (s : Shape) (a b : s.Idx → α) (i : s.Idx), op a b i = g (a i) (b i)) (x : Q16.Idx → α) (k : Fin 16) :
    foldRows op x (ix1 k) = tree g fun i => x (ix2 i k) := by
  unfold foldRows tree
  dsimp only
  rw [show shapeCast G16 _ _ (ix1 k) = _ from shapeCast_dropUnit_apply ![16] _ _ (ix1 k)]
  rw [show (Fin.cons ⟨0, Nat.one_pos⟩ (ix1 k) : Q1.Idx) = ix2 0 k from by rw [eq_ix2 (n0 := 1) (n1 := 16) (Fin.cons ⟨0, Nat.one_pos⟩ (ix1 k))]; rfl]
  rw [hop, slice_rows 0 _ _ 0 k 0 rfl, slice_rows 1 _ _ 0 k 1 rfl]
  rw [hop, hop, slice_rows 0 _ _ 0 k 0 rfl, slice_rows 2 _ _ 0 k 2 rfl, slice_rows 0 _ _ 1 k 1 rfl, slice_rows 2 _ _ 1 k 3 rfl]
  rw [hop, hop, hop, hop, slice_rows 0 _ _ 0 k 0 rfl, slice_rows 4 _ _ 0 k 4 rfl, slice_rows 0 _ _ 1 k 1 rfl, slice_rows 4 _ _ 1 k 5 rfl,
    slice_rows 0 _ _ 2 k 2 rfl, slice_rows 4 _ _ 2 k 6 rfl, slice_rows 0 _ _ 3 k 3 rfl, slice_rows 4 _ _ 3 k 7 rfl]
  rw [hop, hop, hop, hop, hop, hop, hop, hop, slice_rows 0 _ _ 0 k 0 rfl, slice_rows 8 _ _ 0 k 8 rfl, slice_rows 0 _ _ 1 k 1 rfl,
    slice_rows 8 _ _ 1 k 9 rfl, slice_rows 0 _ _ 2 k 2 rfl, slice_rows 8 _ _ 2 k 10 rfl, slice_rows 0 _ _ 3 k 3 rfl, slice_rows 8 _ _ 3 k 11 rfl,
    slice_rows 0 _ _ 4 k 4 rfl, slice_rows 8 _ _ 4 k 12 rfl, slice_rows 0 _ _ 5 k 5 rfl, slice_rows 8 _ _ 5 k 13 rfl,
    slice_rows 0 _ _ 6 k 6 rfl, slice_rows 8 _ _ 6 k 14 rfl, slice_rows 0 _ _ 7 k 7 rfl, slice_rows 8 _ _ 7 k 15 rfl]

theorem foldGroup_apply (hop : ∀ (s : Shape) (a b : s.Idx → α) (i : s.Idx), op a b i = g (a i) (b i)) (x : G16.Idx → α) :
    foldGroup op x = tree g fun i => x (ix1 i) := by
  unfold foldGroup tree
  dsimp only
  have hx : ∀ (y : G1.Idx → α) (h : ∀ a, (![0] : Fin 1 → Nat) a < G1.size a), extractAt ![0] y h = y (ix1 0) := fun y h =>
    congrArg y (funext fun a => by match a with | 0 => rfl)
  rw [hx, hop, slice_group 0 _ _ 0 0 rfl, slice_group 1 _ _ 0 1 rfl]
  rw [hop, hop, slice_group 0 _ _ 0 0 rfl, slice_group 2 _ _ 0 2 rfl, slice_group 0 _ _ 1 1 rfl, slice_group 2 _ _ 1 3 rfl]
  rw [hop, hop, hop, hop, slice_group 0 _ _ 0 0 rfl, slice_group 4 _ _ 0 4 rfl, slice_group 0 _ _ 1 1 rfl, slice_group 4 _ _ 1 5 rfl,
    slice_group 0 _ _ 2 2 rfl, slice_group 4 _ _ 2 6 rfl, slice_group 0 _ _ 3 3 rfl, slice_group 4 _ _ 3 7 rfl]
  rw [hop, hop, hop, hop, hop, hop, hop, hop, slice_group 0 _ _ 0 0 rfl, slice_group 8 _ _ 0 8 rfl, slice_group 0 _ _ 1 1 rfl,
    slice_group 8 _ _ 1 9 rfl, slice_group 0 _ _ 2 2 rfl, slice_group 8 _ _ 2 10 rfl, slice_group 0 _ _ 3 3 rfl, slice_group 8 _ _ 3 11 rfl,
    slice_group 0 _ _ 4 4 rfl, slice_group 8 _ _ 4 12 rfl, slice_group 0 _ _ 5 5 rfl, slice_group 8 _ _ 5 13 rfl,
    slice_group 0 _ _ 6 6 rfl, slice_group 8 _ _ 6 14 rfl, slice_group 0 _ _ 7 7 rfl, slice_group 8 _ _ 7 15 rfl]

theorem asRows_apply (v : G16.Idx → α) (i k : Fin 16) : asRows v (ix2 i k) = v (ix1 i) := by
  unfold asRows
  rw [broadcastTo_apply _ _ _ (ix2 i 0 : Col.Idx) fun a => by match a with | 0 => rfl | 1 => rfl]
  exact shapeCast_apply _ _ _ _ (by rw [Shape.rowMajor_val_one, Shape.rowMajor_val_two]; exact (Nat.mul_one _).symm)

theorem asCols_apply (v : G16.Idx → α) (i k : Fin 16) : asCols v (ix2 i k) = v (ix1 k) := by
  unfold asCols
  rw [broadcastTo_apply _ _ _ (ix2 0 k : Q1.Idx) fun a => by match a with | 0 => rfl | 1 => rfl,
    show shapeCast Q1 v _ (ix2 0 k) = _ from shapeCast_addUnit_apply ![16] v _ (ix2 0 k)]
  exact congrArg v (eq_ix1 _)

end Fold

section Tree
variable {α : Type} [LinearOrder α]

theorem exists_tree (P : Fin 16 → Prop) : (∃ i, P i) ↔ tree (· ∨ ·) P := by
  constructor
  · rintro ⟨i, h⟩
    unfold tree
    match i, h with
    | 0, h | 1, h | 2, h | 3, h | 4, h | 5, h | 6, h | 7, h | 8, h | 9, h | 10, h | 11, h | 12, h | 13, h | 14, h | 15, h => tauto
    | ⟨n + 16, hn⟩, _ => omega
  · unfold tree
    rintro ((((h | h) | h | h) | (h | h) | h | h) | ((h | h) | h | h) | (h | h) | h | h) <;> exact ⟨_, h⟩

theorem forall_tree (P : Fin 16 → Prop) : (∀ i, P i) ↔ tree (· ∧ ·) P := by
  constructor
  · intro h
    unfold tree
    simp only [h, and_self]
  · unfold tree
    rintro ⟨⟨⟨⟨h0, h8⟩, h4, h12⟩, ⟨h2, h10⟩, h6, h14⟩, ⟨⟨h1, h9⟩, h5, h13⟩, ⟨h3, h11⟩, h7, h15⟩ i
    match i with
    | 0 | 1 | 2 | 3 | 4 | 5 | 6 | 7 | 8 | 9 | 10 | 11 | 12 | 13 | 14 | 15 => assumption
    | ⟨n + 16, hn⟩ => omega

theorem le_tree_max (X : Fin 16 → α) (c : α) : c ≤ tree max X ↔ ∃ i, c ≤ X i := by
  rw [exists_tree]; unfold tree; simp only [le_max_iff]

theorem le_tree_min (X : Fin 16 → α) (c : α) : c ≤ tree min X ↔ ∀ i, c ≤ X i := by
  rw [forall_tree]; unfold tree; simp only [le_min_iff]

theorem sum_tree (f : Fin 16 → Nat) : ∑ i, f i = tree (· + ·) f := by
  simp only [Fin.sum_univ_succ, Fin.sum_univ_zero]
  show f 0 + (f 1 + (f 2 + (f 3 + (f 4 + (f 5 + (f 6 + (f 7 + (f 8 + (f 9 + (f 10 + (f 11 + (f 12 + (f 13 + (f 14 + (f 15 + 0))))))))))))))) = _
  unfold tree
  dsimp only
  omega

theorem tree_count (P : Fin 16 → Prop) [DecidablePred P] :
    tree (· + ·) (fun i => if P i then 1#32 else 0#32) = BitVec.ofNat 32 (Finset.univ.filter P).card := by
  rw [Finset.card_filter, sum_tree]
  have h : ∀ i, (if P i then 1#32 else 0#32) = BitVec.ofNat 32 (if P i then 1 else 0) := fun i => by split <;> rfl
  rw [tree_congr _ h]
  unfold tree
  simp only [BitVec.ofNat_add]

end Tree

/-! ## The sorts -/

/-- The values of a group. -/
abbrev vals (v : FVec Ideal G16 .f32) (i : Fin 16) : EReal := v (ix1 i)

theorem ofBool_one (b : Bool) : (BitVec.ofBool b = 1) ↔ b = true := by cases b <;> decide

theorem cmp_olt (x y : EReal) : (Ideal.cmp .olt x y = 1) ↔ x < y := by
  unfold Ideal.cmp; rw [ofBool_one, decide_eq_true_iff]
theorem cmp_ogt (x y : EReal) : (Ideal.cmp .ogt x y = 1) ↔ y < x := by
  unfold Ideal.cmp; rw [ofBool_one, decide_eq_true_iff]

theorem ranks_apply (p : CmpFPredicate) (v : FVec Ideal G16 .f32) (k : Fin 16) :
    ranks p v (ix1 k) = BitVec.ofNat 32 (Finset.univ.filter fun i => Ideal.cmp p (vals v i) (vals v k) = 1).card := by
  unfold ranks
  rw [foldRows_apply (op := fun {_} => addi) (g := (· + ·)) (fun _ _ _ _ => rfl), ← tree_count]
  refine tree_congr _ fun i => ?_
  show Scalar.select (Ideal.cmp p (asRows v (ix2 i k)) (asCols v (ix2 i k))) 1#32 0#32 = _
  rw [asRows_apply, asCols_apply]
  rfl

theorem ranks_olt (v : FVec Ideal G16 .f32) (k : Fin 16) : ranks .olt v (ix1 k) = BitVec.ofNat 32 (below (vals v) k) := by
  rw [ranks_apply]; simp only [cmp_olt]; rfl

theorem ranks_ogt (v : FVec Ideal G16 .f32) (k : Fin 16) : ranks .ogt v (ix1 k) = BitVec.ofNat 32 (above (vals v) k) := by
  rw [ranks_apply]; simp only [cmp_ogt]; rfl

theorem sle_small : ∀ n < 17, ∀ k < 16, (BitVec.ofNat 32 n).sle (BitVec.ofNat 32 k) = decide (n ≤ k) := by decide +kernel

theorem atMost_apply (r : IVec G16 32) (i k : Fin 16) (n : Nat) (hn : n ≤ 16) (hr : r (ix1 i) = BitVec.ofNat 32 n) :
    (atMost r (ix2 i k) = 1) ↔ n ≤ k.val := by
  unfold atMost
  show (BitVec.ofBool ((asRows r (ix2 i k)).sle (asCols (iota .scVector G16 32 [0] _) (ix2 i k))) = 1) ↔ _
  rw [asRows_apply, asCols_apply, hr, iota_single_apply, show ((ix1 k : G16.Idx) 0).val = k.val from rfl,
    sle_small n (by omega) k.val k.isLt, ofBool_one, decide_eq_true_iff]

theorem below_le (v : Fin 16 → EReal) (i : Fin 16) : below v i ≤ 16 := (Finset.card_le_univ _).trans (by simp)
theorem above_le (v : Fin 16 → EReal) (i : Fin 16) : above v i ≤ 16 := (Finset.card_le_univ _).trans (by simp)

theorem bot_f32 : Ideal.ofBits .f32 0xFF800000#32 = ⊥ := by simp [Ideal.ofBits, Ideal.ieee]
theorem top_f32 : Ideal.ofBits .f32 0x7F800000#32 = ⊤ := by simp [Ideal.ofBits, Ideal.ieee]

theorem sortUp_up (v : FVec Ideal G16 .f32) : UpOf (vals (sortUp v)) (cnt (vals v)) := fun k c => by
  show c ≤ sortUp v (ix1 k) ↔ _
  unfold sortUp
  rw [foldRows_apply (op := fun {_} => maximumf) (g := fun x y : EReal => max x y) (fun _ _ _ _ => rfl)]
  refine (le_tree_max _ c).trans ?_
  rw [← up_iff (vals v) c k.val k.isLt]
  have hsel : ∀ i, (select (atMost (ranks .olt v)) (asRows v) (broadcast Q16 (Scalar.ofBits (F := Ideal) .f32 0xFF800000#32)) (ix2 i k) : EReal)
      = if below (vals v) i ≤ k.val then vals v i else ⊥ := fun i => by
    show (Scalar.select (atMost (ranks .olt v) (ix2 i k)) (asRows v (ix2 i k)) (Ideal.ofBits .f32 0xFF800000#32) : EReal) = _
    unfold Scalar.select
    rw [asRows_apply, bot_f32]
    simp only [atMost_apply _ i k _ (below_le _ i) (ranks_olt v i)]
  simp only [hsel]
  constructor
  · rintro ⟨i, hi⟩
    by_cases h : below (vals v) i ≤ k.val
    · exact ⟨i, h, by rwa [if_pos h] at hi⟩
    · rw [if_neg h, le_bot_iff] at hi
      subst hi
      exact (up_iff (vals v) ⊥ k.val k.isLt).mpr (by
        have : cnt (vals v) ⊥ = 16 := by simp [cnt]
        omega)
  · rintro ⟨i, h, hi⟩
    exact ⟨i, by rwa [if_pos h]⟩

theorem sortDown_down (v : FVec Ideal G16 .f32) : DownOf (vals (sortDown v)) (cnt (vals v)) := fun k c => by
  show c ≤ sortDown v (ix1 k) ↔ _
  unfold sortDown
  rw [foldRows_apply (op := fun {_} => minimumf) (g := fun x y : EReal => min x y) (fun _ _ _ _ => rfl)]
  refine (le_tree_min _ c).trans ?_
  rw [← down_iff (vals v) c k.val k.isLt]
  have hsel : ∀ i, (select (atMost (ranks .ogt v)) (asRows v) (broadcast Q16 (Scalar.ofBits (F := Ideal) .f32 0x7F800000#32)) (ix2 i k) : EReal)
      = if above (vals v) i ≤ k.val then vals v i else ⊤ := fun i => by
    show (Scalar.select (atMost (ranks .ogt v) (ix2 i k)) (asRows v (ix2 i k)) (Ideal.ofBits .f32 0x7F800000#32) : EReal) = _
    unfold Scalar.select
    rw [asRows_apply, top_f32]
    simp only [atMost_apply _ i k _ (above_le _ i) (ranks_ogt v i)]
  simp only [hsel]
  refine forall_congr' fun i => ?_
  by_cases h : above (vals v) i ≤ k.val
  · rw [if_pos h]; exact ⟨fun hc _ => hc, fun hc => hc h⟩
  · rw [if_neg h]; exact ⟨fun _ h' => absurd h' h, fun _ => le_top⟩

/-! ## The merges and the threshold -/

theorem mergeUp_up {a b : FVec Ideal G16 .f32} {p q : EReal → Nat} (ha : UpOf (vals a) p) (hb : DownOf (vals b) q) :
    UpOf (vals (mergeUp a b)) fun c => min 16 (p c + q c) := fun k c => by
  show _ ↔ 16 ≤ k.val + min 16 (p c + q c)
  rw [← cnt_max ha hb c]
  exact sortUp_up (maximumf a b) k c

theorem mergeDown_down {a b : FVec Ideal G16 .f32} {p q : EReal → Nat} (ha : UpOf (vals a) p) (hb : DownOf (vals b) q) :
    DownOf (vals (mergeDown a b)) fun c => min 16 (p c + q c) := fun k c => by
  show _ ↔ k.val < min 16 (p c + q c)
  rw [← cnt_max ha hb c]
  exact sortDown_down (maximumf a b) k c

theorem cnt_all {n : Nat} (v : Fin n → EReal) (c : EReal) : cnt v c = n ↔ ∀ i, c ≤ v i := by
  have h := Finset.card_eq_iff_eq_univ (Finset.univ.filter fun i => c ≤ v i)
  rw [Fintype.card_fin, Finset.filter_eq_self] at h
  exact h.trans ⟨fun h i => h i (Finset.mem_univ i), fun h i _ => h i⟩

theorem le_thr (g0 g1 g2 g3 g4 g5 g6 g7 : FVec Ideal G16 .f32) (c : EReal) :
    c ≤ (thr g0 g1 g2 g3 g4 g5 g6 g7 : EReal) ↔ 16 ≤ cnt (vals g0) c + cnt (vals g1) c + cnt (vals g2) c + cnt (vals g3) c
      + cnt (vals g4) c + cnt (vals g5) c + cnt (vals g6) c + cnt (vals g7) c := by
  unfold thr
  rw [foldGroup_apply (op := fun {_} => minimumf) (g := fun x y : EReal => min x y) (fun _ _ _ _ => rfl)]
  refine (le_tree_min _ c).trans ?_
  have h := cnt_max
    (mergeUp_up (mergeUp_up (sortUp_up g0) (sortDown_down g1)) (mergeDown_down (sortUp_up g2) (sortDown_down g3)))
    (mergeDown_down (mergeUp_up (sortUp_up g4) (sortDown_down g5)) (mergeDown_down (sortUp_up g6) (sortDown_down g7))) c
  rw [show (∀ i, c ≤ top16 g0 g1 g2 g3 g4 g5 g6 g7 (ix1 i)) ↔ cnt (vals (top16 g0 g1 g2 g3 g4 g5 g6 g7)) c = 16 from (cnt_all _ c).symm,
    show cnt (vals (top16 g0 g1 g2 g3 g4 g5 g6 g7)) c = _ from h]
  omega

theorem cnt_row (R : Fin 128 → EReal) (c : EReal) : cnt R c = ∑ k : Fin 8, cnt (vals (grp R k)) c := by
  unfold cnt
  simp only [Finset.card_filter]
  rw [← (finProdFinEquiv (m := 8) (n := 16)).sum_comp, Fintype.sum_prod_type]
  refine Finset.sum_congr rfl fun k _ => Finset.sum_congr rfl fun q _ => ?_
  have : R (finProdFinEquiv (k, q)) = vals (grp R k) q := congrArg R (Fin.ext (by
    show q.val + 16 * k.val = 16 * k.val + q.val
    omega))
  rw [this]

/-- The threshold of a row is its sixteenth greatest value. -/
theorem le_thrRow (R : Fin 128 → EReal) (c : EReal) : c ≤ (thrRow (F := Ideal) R : EReal) ↔ 16 ≤ cnt R c := by
  unfold thrRow
  rw [le_thr, cnt_row, Fin.sum_univ_eight]

theorem thrRow_eq (R : Fin 128 → EReal) (t : EReal) (h : ∀ c, c ≤ t ↔ 16 ≤ cnt R c) : (thrRow (F := Ideal) R : EReal) = t :=
  eq_of_forall_le_iff fun c => (le_thrRow R c).trans (h c).symm

/-! ## The mask -/

/-- The positive part of the sign of the difference is one above the threshold and zero elsewhere. -/
theorem maskVal_eq (t v : EReal) : (maskVal (F := Ideal) t v : EReal) = max (Ideal.sign (v - t)) 0 := by
  show (Scalar.select (Ideal.cmp .ogt v t) (Ideal.ofBits .f32 0x3F800000#32) (Ideal.ofBits .f32 0x00000000#32) : EReal) = _
  unfold Scalar.select
  simp only [cmp_ogt, Ideal.ofBits_one_f32, Ideal.ofBits_zero_f32]
  induction v <;> induction t <;> simp
  rename_i x y
  rw [← EReal.coe_sub, Ideal.sign_coe]
  rcases lt_trichotomy y x with h | h | h
  · rw [if_pos h, sign_pos (sub_pos.mpr h)]; simp
  · subst h; simp
  · rw [if_neg (not_lt.mpr h.le), sign_neg (sub_neg.mpr h)]; simp

end Cert.Topk
-- ==== Proof.ReferenceRun.lean ====
module

public import proofs.«01_k».proof.Defs
public import proofs.«01_k».proof.Proof.Reading
public import proofs.«01_k».proof.Proof.Gen.ReferenceIdeal
public import Idealize.ShloMosaic.Lib.StableHlo.Run
public import Idealize.ShloMosaic.Lib.Quiescent

/-!
# The reference's run

The reference is a straight line of host operations. Its result is read at an index: the threshold of a row is the value at
position fifteen of the row sorted greater first, so it is at least `c` exactly when sixteen of the row's values are.
-/

@[expose] public section
noncomputable section
namespace Cert.ReferenceIdeal.Topk
open Cert.ReferenceIdeal Cert.ReferenceIdeal.Gen Cert.Topk
open Idealize.ShloMosaic Idealize.ShloMosaic.TcCoe Idealize.ShloMosaic.StableHlo Idealize.SL.Sem
open Idealize.ShloMosaic.ValueIdx (ix1 ix2 eq_ix1 eq_ix2)

/-! ## The values -/

section Values
variable {F : FTy → Type} [FloatOps F]

/-- The sixteen greatest of each row. -/
def values (x : FVec F S131072x128 .f32) : FVec F S131072x16 .f32 :=
  (Host.topK S131072x16 1 (FloatOps.cmpfTotal .gt) x sliceFits_S131072x128_S131072x16).1

/-- The thresholds, one per row. -/
def thresh (x : FVec F S131072x128 .f32) : FVec F S131072 .f32 :=
  shapeCast S131072 (extractStridedSlice S131072x1 ![0, 15] (values x) slices_S131072x16_S131072x1_0_15) shapeCasts_S131072x1_S131072

/-- The result. -/
def out (x : FVec F S131072x128 .f32) : FVec F S131072x128 .f32 :=
  maximumf
    (Host.sign (subf x (broadcastInDim S131072x128 ![0, 1] bcast_S131072x1_S131072x128_0_1
      (broadcastInDim S131072x1 ![0] bcast_S131072_S131072x1_0 (thresh x)))))
    (broadcastInDim S131072x128 ![] bcast_S_S131072x128 (constant S_ .f32 0x00000000#32))

end Values

/-! ## The run -/

section Run
variable {F : FTy → Type} [FloatOps F]

abbrev ops : List (HloOp τ sig (Elt F)) :=
  [ unary main_arg0 main_values (fun x => (Host.topK S131072x16 1 (FloatOps.cmpfTotal .gt) x sliceFits_S131072x128_S131072x16).1),
    unary main_arg0 main_indices (fun x => (Host.topK S131072x16 1 (FloatOps.cmpfTotal .gt) x sliceFits_S131072x128_S131072x16).2),
    unary main_values main_v0 (extractStridedSlice S131072x1 ![0, 15] · slices_S131072x16_S131072x1_0_15),
    reshape main_v0 main_v1 (rfl : (.f32 : EltTy) = .f32) shapeCasts_S131072x1_S131072,
    unary main_v1 main_v2 (broadcastInDim S131072x1 ![0] bcast_S131072_S131072x1_0),
    unary main_v2 main_v3 (broadcastInDim S131072x128 ![0, 1] bcast_S131072x1_S131072x128_0_1),
    binary main_arg0 main_v3 main_v4 subf,
    unary main_v4 main_v5 Host.sign,
    TRef.nullary main_call0.cst (constant S_ .f32 0x00000000#32),
    TRef.unary main_call0.cst main_call0.v0 (broadcastInDim S131072x128 ![] bcast_S_S131072x128),
    TRef.binary (.of main_v5) main_call0.v0 main_call0.v1 maximumf ]

theorem main_eq (c : Dev nD) : main (F := F) c = seq ops := by
  simp only [main, fn_relu.body, seq, bind_assoc, pure_bind]
  rfl

theorem out_eq (V : Valuation τ sig (Elt F)) :
    after ops V (main_v6 : DevRef τ sig) = out (F := F) (V (main_arg0 : DevRef τ sig)) := by
  after_results_simp
  rfl

theorem arg_eq (V : Valuation τ sig (Elt F)) :
    after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., reshape_bufs_sub .., unary_bufs_sub .., unary_bufs_sub .., binary_bufs_sub ..,
    unary_bufs_sub .., nullary_bufs_sub .., unary_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Run

/-- The reference's run leaves its argument unchanged. -/
theorem frame : Cert.quiescent_ReferenceIdeal := fun m ρ _ =>
  (θ_run Cert.ReferenceIdeal.defs _ _).mono
    (fun r h => ⟨fun c => (h c main_arg0).trans (arg_eq _), Idealize.ShloMosaic.sem_eq_zero_of_no_sems (by decide) r.2⟩)
    (run_main (F := Ideal) m ρ)

/-! ## The result at an index -/

/-- Row `r`. -/
abbrev rowOf (x : FVec Ideal S131072x128 .f32) (r : Fin 131072) (j : Fin 128) : EReal := x (ix2 r j)

/-- Value `k` of a row's sixteen greatest is at least `c` exactly when more than `k` of the row's values are. -/
theorem le_values (x : FVec Ideal S131072x128 .f32) (r : Fin 131072) (k : Fin 16) (c : EReal) :
    c ≤ (values x (ix2 r k) : EReal) ↔ k.val < cnt (rowOf x r) c := by
  let B : Fin 128 → Fin 128 → Bool := fun a b => Ideal.cmp .ogt (rowOf x r a) (rowOf x r b) == 1#1
  have hB : ∀ a b, B a b = decide (rowOf x r b < rowOf x r a) := fun a b => by
    rw [Bool.eq_iff_iff, decide_eq_true_iff, ← cmp_ogt]; exact beq_iff_eq
  have hv : values x (ix2 r k) = rowOf x r (sortedFrom B ⟨k.val, by omega⟩) := by
    unfold values Host.topK Host.sort2
    dsimp only
    rw [dif_pos (by decide)]
    rw [extractStridedSlice_apply _ _ _ (ix2 r k) (ix2 r ⟨k.val, by omega⟩ : S131072x128.Idx) fun a => by
      match a with
      | 0 => exact (Nat.zero_add _).symm
      | 1 => exact (Nat.zero_add _).symm]
    have hal : ∀ j : Fin 128, (ix2 r ⟨k.val, by omega⟩ : S131072x128.Idx).along 1 j = ix2 r j := fun j => by
      rw [eq_ix2 (n0 := 131072) (n1 := 128) ((ix2 r ⟨k.val, by omega⟩ : S131072x128.Idx).along 1 j)]
      rfl
    have hR : (fun a b : Fin 128 => FloatOps.cmpfTotal (F := Ideal) (φ := .f32) .gt (x ((ix2 r ⟨k.val, by omega⟩ : S131072x128.Idx).along 1 a))
        (x ((ix2 r ⟨k.val, by omega⟩ : S131072x128.Idx).along 1 b)) == 1#1) = B := by
      funext a b
      rw [hal a, hal b]
      rfl
    show x ((ix2 r ⟨k.val, by omega⟩ : S131072x128.Idx).along 1 (sortedFrom
      (fun a b : Fin 128 => FloatOps.cmpfTotal (F := Ideal) (φ := .f32) .gt (x ((ix2 r ⟨k.val, by omega⟩ : S131072x128.Idx).along 1 a))
        (x ((ix2 r ⟨k.val, by omega⟩ : S131072x128.Idx).along 1 b)) == 1#1) ⟨k.val, k.isLt.trans (by decide)⟩)) = _
    rw [hR]
    exact congrArg x (hal _)
  have hanti : ∀ i j : Fin 128, i < j → rowOf x r (sortedFrom B j) ≤ rowOf x r (sortedFrom B i) := fun i j hij => by
    have h := sortedFrom_noInversion B B
      (fun a b h => by
        rw [hB] at h ⊢
        exact decide_eq_false (lt_asymm (of_decide_eq_true h)))
      (fun _ _ h => h)
      (fun a b c h₁ h₂ => by
        rw [hB] at h₁ h₂ ⊢
        exact decide_eq_false (not_lt.mpr ((not_lt.mp (of_decide_eq_false h₁)).trans (not_lt.mp (of_decide_eq_false h₂)))))
      i j hij
    rw [hB] at h
    exact not_lt.mp (of_decide_eq_false h)
  rw [hv, antitone_iff (fun i => rowOf x r (sortedFrom B i)) hanti ⟨k.val, by omega⟩ c,
    cnt_comp (rowOf x r) (sortedFrom B) ⟨sortedFrom_injective B, sortedFrom_surjective B⟩ c]

/-- A row's threshold is at least `c` exactly when sixteen of the row's values are. -/
theorem le_thresh (x : FVec Ideal S131072x128 .f32) (r : Fin 131072) (c : EReal) :
    c ≤ (thresh x (ix1 r) : EReal) ↔ 16 ≤ cnt (rowOf x r) c := by
  have h : thresh x (ix1 r) = values x (ix2 r 15) := by
    unfold thresh
    rw [shapeCast_apply _ _ (ix1 r) (ix2 r 0 : S131072x1.Idx) (by
      rw [Shape.rowMajor_val_one, Shape.rowMajor_val_two]
      show r.val * 1 + 0 = r.val
      omega)]
    exact extractStridedSlice_apply _ _ _ (ix2 r 0) (ix2 r 15 : S131072x16.Idx) fun a => by
      match a with
      | 0 => exact (Nat.zero_add _).symm
      | 1 => rfl
  rw [h, le_values x r 15 c]
  exact Iff.rfl

/-- The reference's result is the mask the kernel's run leaves. -/
theorem out_mask (x : FVec Ideal S131072x128 .f32) : out x = maskAt (F := Ideal) (n := 131072) x := by
  funext y
  have ht : thrRow (F := Ideal) (rowOf x (y 0)) = thresh x (ix1 (y 0)) :=
    thrRow_eq _ _ (le_thresh x (y 0))
  have hb : broadcastInDim S131072x128 ![0, 1] bcast_S131072x1_S131072x128_0_1
      (broadcastInDim S131072x1 ![0] bcast_S131072_S131072x1_0 (thresh x)) y = thresh x (ix1 (y 0)) := by
    rw [broadcastInDim_apply _ _ _ y (ix2 (y 0) 0 : S131072x1.Idx) fun a => by
      match a with
      | 0 => rfl
      | 1 => rfl]
    exact broadcastInDim_apply _ _ _ _ (ix1 (y 0) : S131072.Idx) fun a => by
      match a with
      | 0 => rfl
  have hz : broadcastInDim S131072x128 ![] bcast_S_S131072x128 (constant (F := Ideal) S_ .f32 0x00000000#32) y = (0 : EReal) :=
    Ideal.ofBits_zero_f32
  show max (Ideal.sign (x y - broadcastInDim S131072x128 ![0, 1] bcast_S131072x1_S131072x128_0_1
      (broadcastInDim S131072x1 ![0] bcast_S131072_S131072x1_0 (thresh x)) y))
    (broadcastInDim S131072x128 ![] bcast_S_S131072x128 (constant (F := Ideal) S_ .f32 0x00000000#32) y : EReal) = _
  rw [hb, hz]
  unfold maskAt
  rw [show (thrRow fun j => x (ix2 (y 0) j)) = thresh x (ix1 (y 0)) from ht]
  exact (maskVal_eq _ _).symm

end Cert.ReferenceIdeal.Topk
-- ==== Proof.Layers.lean ====
module

public import Idealize.ShloMosaic.Lib.ValueIdx
public import Idealize.ShloMosaic.Lib.Pipeline.Value
public import Idealize.ShloMosaic.Lib.KernelVsHost
public import Idealize.ShloMosaic.Lib.MatmulPlain
public import Idealize.ShloMosaic.Lib.StackMember
public import Idealize.ShloMosaic.PureOps.Ideal.Laws

/-!
# Two dense layers and a softmax, over the extended reals

A weight or a bias is its mean plus `log (1 + exp ρ)` times its noise. A row of the input goes through two dense layers, each
cut below at zero; the 16384 values of the second are a square of 128 by 128, and the softmax is taken down each column.
-/

@[expose] public section
noncomputable section
namespace Cert.Layers
open Idealize.ShloMosaic
open Idealize.ShloMosaic.ValueIdx (ix1 ix2 ix3 eq_ix1 eq_ix2 eq_ix3)

/-- A weight or bias from its mean, its spread and its noise. -/
def weight (μ ρ ε : EReal) : EReal := μ + Ideal.log (Ideal.ofBits .f32 0x3F800000#32 + Ideal.exp ρ) * ε

/-- A value cut below at zero. -/
def cut (x : EReal) : EReal := max x (Ideal.ofBits .f32 0x00000000#32)

/-- Entry `j` of a dense layer of width `n` on a row of `k` values. -/
def dense {k n : Nat} (x : Fin k → EReal) (w : Fin n → Fin k → EReal) (b : Fin n → EReal) (j : Fin n) : EReal :=
  cut ((∑ i : Fin k, x i * w j i) + b j)

/-- The greatest of a column, from `-∞`. -/
def top (l : Fin 128 → EReal) : EReal := (Finset.univ : Finset (Fin 128)).fold max (Ideal.ofBits .f32 0xFF800000#32) l

/-- The softmax of a column, at position `n`. -/
def soft (l : Fin 128 → EReal) (n : Fin 128) : EReal :=
  Ideal.div (Ideal.exp (l n - top l)) (∑ i : Fin 128, Ideal.exp (l i - top l))

/-- Entry `(n, m)` of the square, among the 16384 values of the second layer. -/
def at2 (n m : Fin 128) : Fin 16384 := ⟨n.val * 128 + m.val, by omega⟩

/-- The probability at `(n, m)` that a row of the input leads to. -/
def prob (x : Fin 512 → EReal) (w₁ : Fin 16 → Fin 512 → EReal) (b₁ : Fin 16 → EReal) (w₂ : Fin 16384 → Fin 16 → EReal)
    (b₂ : Fin 16384 → EReal) (n m : Fin 128) : EReal :=
  soft (fun i => dense (dense x w₁ b₁) w₂ b₂ (at2 i m)) n

/-- The probabilities of all the rows, from the input and the layers' means, spreads (`…r`) and noises (`…e`). -/
def probOf (x : (⟨2, ![1024, 512]⟩ : Shape).Idx → EReal) (w wr : (⟨2, ![16, 512]⟩ : Shape).Idx → EReal)
    (b br : (⟨1, ![16]⟩ : Shape).Idx → EReal) (u ur : (⟨2, ![16384, 16]⟩ : Shape).Idx → EReal)
    (d dr : (⟨1, ![16384]⟩ : Shape).Idx → EReal) (we : (⟨2, ![16, 512]⟩ : Shape).Idx → EReal)
    (be : (⟨1, ![16]⟩ : Shape).Idx → EReal) (ue : (⟨2, ![16384, 16]⟩ : Shape).Idx → EReal)
    (de : (⟨1, ![16384]⟩ : Shape).Idx → EReal) (p : Fin 1024) (n m : Fin 128) : EReal :=
  prob (fun i => x (ix2 p i)) (fun j i => weight (w (ix2 j i)) (wr (ix2 j i)) (we (ix2 j i)))
    (fun j => weight (b (ix1 j)) (br (ix1 j)) (be (ix1 j)))
    (fun q j => weight (u (ix2 q j)) (ur (ix2 q j)) (ue (ix2 q j)))
    (fun q => weight (d (ix1 q)) (dr (ix1 q)) (de (ix1 q))) n m

theorem weight_congr {μ ρ ε μ' ρ' ε' : EReal} (h : μ = μ') (h' : ρ = ρ') (h'' : ε = ε') : weight μ ρ ε = weight μ' ρ' ε' := by
  subst h h' h''
  rfl

theorem dense_congr {k n : Nat} {x x' : Fin k → EReal} {w w' : Fin n → Fin k → EReal} {b b' : Fin n → EReal}
    (hx : ∀ i, x i = x' i) (hw : ∀ j i, w j i = w' j i) (hb : ∀ j, b j = b' j) (j : Fin n) :
    dense x w b j = dense x' w' b' j := by
  rw [funext hx, funext fun j => funext (hw j), funext hb]

theorem max_top (l : Fin 128 → EReal) : max (Ideal.ofBits .f32 0xFF800000#32) (top l) = top l :=
  max_eq_right (Finset.le_fold_max _ |>.mpr (Or.inl le_rfl))

/-! ## Reductions down the middle axis -/

section Reduce
variable {a c : Nat}

theorem lift_eq (h : (⟨3, ![a, 128, c]⟩ : Shape).Reduces [1] ⟨2, ![a, c]⟩) (p : Fin a) (m : Fin c) (k : Fin 128) :
    h.lift (ix2 p m) k = ix3 p k m := by
  funext i
  apply Fin.ext
  match i with
  | 0 => exact Shape.Reduces.lift_val h (ix2 p m) k 0
  | 1 => exact Shape.Reduces.lift_val h (ix2 p m) k 1
  | 2 => exact Shape.Reduces.lift_val h (ix2 p m) k 2

/-- A maximum down the middle axis. -/
theorem max_apply (v : FVec Ideal ⟨3, ![a, 128, c]⟩ .f32) (h : (⟨3, ![a, 128, c]⟩ : Shape).Reduces [1] ⟨2, ![a, c]⟩)
    (hφ : FKind.Formats .f32) (hacc : 0xFF800000#32 = FKind.maximumf.neutral .f32 hφ) (p : Fin a) (m : Fin c) :
    multiReduction .maximumf [1] ⟨2, ![a, c]⟩ v 0xFF800000#32 h hφ hacc (ix2 p m) = top (fun k => v (ix3 p k m)) := by
  rw [Ideal.multiReduction_maximumf_single v _ h hφ hacc (ix2 p m)]
  unfold top
  exact congrArg (fun f => (Finset.univ : Finset (Fin 128)).fold max (Ideal.ofBits .f32 0xFF800000#32) f)
    (funext fun k => congrArg v (lift_eq h p m k))

/-- A sum down the middle axis. -/
theorem sum_apply (v : FVec Ideal ⟨3, ![a, 128, c]⟩ .f32) (h : (⟨3, ![a, 128, c]⟩ : Shape).Reduces [1] ⟨2, ![a, c]⟩)
    (hφ : FKind.Formats .f32) (hacc : 0x00000000#32 = FKind.add.neutral .f32 hφ) (p : Fin a) (m : Fin c) :
    multiReduction .add [1] ⟨2, ![a, c]⟩ v 0x00000000#32 h hφ hacc (ix2 p m) = ∑ k : Fin 128, (v (ix3 p k m) : EReal) := by
  rw [Ideal.multiReduction_add_single v _ h hφ hacc (ix2 p m)]
  exact Finset.sum_congr rfl fun k _ => congrArg v (lift_eq h p m k)

end Reduce

end Cert.Layers
-- ==== Proof.ProbBlock.lean ====
module

public import proofs.«01_k».proof.Proof.Gen.ProbIdeal.Skeleton
public import proofs.«01_k».proof.Proof.Layers

/-!
# What one grid point of the dense layers computes

A grid point has 128 rows of the input and all the weights, transposed. Its result at `(p, n, m)` is the probability at `(n, m)`
that row `p` leads to.
-/

@[expose] public section
set_option maxRecDepth 4096
noncomputable section
namespace Cert.ProbIdeal.Block
open Idealize.ShloMosaic Cert.ProbIdeal Cert.ProbIdeal.Gen Cert.Layers
open Idealize.ShloMosaic.ValueIdx (ix1 ix2 ix3 eq_ix1 eq_ix2 eq_ix3)

/-! ## The first layer -/

theorem pay2_apply (v0 v2 v8 : FVec Ideal S512x16 .f32) (v12 v14 v20 : FVec Ideal S1x16 .f32) (v24 : FVec Ideal S128x512 .f32)
    (p : Fin 128) (j : Fin 16) :
    k0_pay2 (F := Ideal) v0 v2 v8 v12 v14 v20 v24 (ix2 p j)
      = dense (fun i => v24 (ix2 p i)) (fun j i => weight (v0 (ix2 i j)) (v2 (ix2 i j)) (v8 (ix2 i j)))
          (fun j => weight (v12 (ix2 0 j)) (v14 (ix2 0 j)) (v20 (ix2 0 j))) j := by
  unfold k0_pay2
  simp only [shapeCast_self]
  unfold dense cut
  refine congrArg (fun z : EReal => max z (Ideal.ofBits .f32 0x00000000#32)) ?_
  refine congrArg₂ (fun a b : EReal => a + b) ?_ ?_
  · refine (Ideal.matmul_plain_apply none _ _ _ p j).trans ?_
    refine (congrArg (fun z : EReal => z + _) Ideal.ofBits_zero_f32).trans ?_
    exact zero_add _
  · exact broadcastTo_apply _ _ (ix2 p j) (ix2 0 j) (fun a => by match a with | 0 => rfl | 1 => rfl)

/-! ## The second layer -/

theorem pay1_square (v29 : FVec Ideal S128x16 .f32) (w : FVec Ideal S16x16384 .f32) (b : FVec Ideal S128x128 .f32)
    (p n m : Fin 128) :
    (maximumf (addf (shapeCast S128x128x128 (matmul dot_S128x16_S16x16384_S128x16384_1_0_0_1_n_n none v29 w
        (constant S128x16384 .f32 0x00000000#32)) shapeCasts_S128x16384_S128x128x128)
        (broadcastTo S128x128x128 (shapeCast S1x128x128 b shapeCasts_S128x128_S1x128x128) broadcasts_S1x128x128_S128x128x128))
        (broadcast S128x128x128 (Scalar.ofBits .f32 0x00000000#32)) : FVec Ideal S128x128x128 .f32) (ix3 p n m)
      = cut ((∑ i : Fin 16, (v29 (ix2 p i) : EReal) * w (ix2 i (at2 n m))) + b (ix2 n m)) := by
  unfold cut
  refine congrArg (fun z : EReal => max z (Ideal.ofBits .f32 0x00000000#32)) ?_
  refine congrArg₂ (fun a b : EReal => a + b) ?_ ?_
  · refine (shapeCast_apply _ _ (ix3 p n m) (ix2 p (at2 n m)) ?_).trans ?_
    · rw [Shape.rowMajor_val_two, Shape.rowMajor_val_three]
      show p.val * 16384 + (n.val * 128 + m.val) = (p.val * 128 + n.val) * 128 + m.val
      omega
    · refine (Ideal.matmul_plain_apply none _ _ _ p (at2 n m)).trans ?_
      refine (congrArg (fun z : EReal => z + _) Ideal.ofBits_zero_f32).trans ?_
      exact zero_add _
  · refine (broadcastTo_apply _ _ (ix3 p n m) (ix3 0 n m) (fun a => by match a with | 0 => rfl | 1 => rfl | 2 => rfl)).trans ?_
    refine shapeCast_apply _ _ (ix3 0 n m) (ix2 n m) ?_
    rw [Shape.rowMajor_val_two, Shape.rowMajor_val_three]
    show n.val * 128 + m.val = (0 * 128 + n.val) * 128 + m.val
    omega

/-! ## The softmax -/

/-- A value per column, laid out again along the column. -/
theorem spread (v : FVec Ideal S128x128 .f32) (p n m : Fin 128) :
    (broadcastTo S128x128x128 (shapeCast S128x1x128 v shapeCasts_S128x128_S128x1x128) broadcasts_S128x1x128_S128x128x128
      : FVec Ideal S128x128x128 .f32) (ix3 p n m) = v (ix2 p m) := by
  refine (broadcastTo_apply _ _ (ix3 p n m) (ix3 p 0 m) (fun a => by match a with | 0 => rfl | 1 => rfl | 2 => rfl)).trans ?_
  refine shapeCast_apply _ _ (ix3 p 0 m) (ix2 p m) ?_
  rw [Shape.rowMajor_val_two, Shape.rowMajor_val_three]
  show p.val * 128 + m.val = (p.val * 1 + 0) * 128 + m.val
  omega

/-- The exponentials of the square, each column's greatest taken off first. -/
def expo (x : FVec Ideal S128x128x128 .f32) : FVec Ideal S128x128x128 .f32 :=
  exp (subf x (broadcastTo S128x128x128 (shapeCast S128x1x128
    (multiReduction .maximumf [1] S128x128 x 0xFF800000#32 reduces_S128x128x128_S128x128 (.inl rfl) rfl)
    shapeCasts_S128x128_S128x1x128) broadcasts_S128x1x128_S128x128x128))

/-- The softmax of the square. -/
def softmax (x : FVec Ideal S128x128x128 .f32) : FVec Ideal S128x128x128 .f32 :=
  divf (expo x) (broadcastTo S128x128x128 (shapeCast S128x1x128
    (multiReduction .add [1] S128x128 (expo x) 0x00000000#32 reduces_S128x128x128_S128x128 (.inl rfl) rfl)
    shapeCasts_S128x128_S128x1x128) broadcasts_S128x1x128_S128x128x128)

theorem expo_apply (x : FVec Ideal S128x128x128 .f32) (p n m : Fin 128) :
    expo x (ix3 p n m) = Ideal.exp ((x (ix3 p n m) : EReal) - top (fun k => x (ix3 p k m))) := by
  refine congrArg (fun z : EReal => Ideal.exp ((x (ix3 p n m) : EReal) - z)) ?_
  exact (spread _ p n m).trans (max_apply x _ _ _ p m)

theorem softmax_apply (x : FVec Ideal S128x128x128 .f32) (p n m : Fin 128) :
    softmax x (ix3 p n m) = soft (fun k => x (ix3 p k m)) n := by
  unfold soft
  refine congrArg₂ (fun a b : EReal => Ideal.div a b) (expo_apply x p n m) ?_
  refine (spread _ p n m).trans ((sum_apply (expo x) _ _ _ p m).trans ?_)
  exact Finset.sum_congr rfl fun k _ => expo_apply x p k m

/-! ## The block -/

/-- The result of a grid point at `(p, n, m)`. -/
theorem block_apply (x : FVec Ideal S128x512 .f32) (w₁ r₁ e₁ : FVec Ideal S512x16 .f32) (b₁ s₁ f₁ : FVec Ideal S1x16 .f32)
    (w₂ r₂ e₂ : FVec Ideal S16x16384 .f32) (b₂ s₂ f₂ : FVec Ideal S128x128 .f32) (p n m : Fin 128) :
    k0_pay1 (F := Ideal) (k0_pay2 w₁ r₁ e₁ b₁ s₁ f₁ x) (k0_pay3 w₂) (k0_pay4 r₂) k0_pay5 e₂ b₂ s₂ f₂ (ix3 p n m)
      = soft (fun k => cut ((∑ i : Fin 16,
            dense (fun i => x (ix2 p i)) (fun j i => weight (w₁ (ix2 i j)) (r₁ (ix2 i j)) (e₁ (ix2 i j)))
              (fun j => weight (b₁ (ix2 0 j)) (s₁ (ix2 0 j)) (f₁ (ix2 0 j))) i
            * weight (w₂ (ix2 i (at2 k m))) (r₂ (ix2 i (at2 k m))) (e₂ (ix2 i (at2 k m))))
          + weight (b₂ (ix2 k m)) (s₂ (ix2 k m)) (f₂ (ix2 k m)))) n := by
  unfold k0_pay1 k0_pay3 k0_pay4 k0_pay5
  simp only [shapeCast_self]
  refine (softmax_apply _ p n m).trans ?_
  refine congrArg (fun l => soft l n) (funext fun k => ?_)
  refine (pay1_square _ _ _ p k m).trans ?_
  refine congrArg cut (congrArg₂ (fun a b : EReal => a + b) (Finset.sum_congr rfl fun i _ => ?_) rfl)
  exact congrArg₂ (fun a b : EReal => a * b) (pay2_apply w₁ r₁ e₁ b₁ s₁ f₁ x p i) rfl

end Cert.ProbIdeal.Block
-- ==== Proof.ProbRun.lean ====
module

public import proofs.«01_k».proof.Proof.Gen.ProbIdeal.Value
public import proofs.«01_k».proof.Proof.ProbBlock

/-!
# The dense layers' run

The eight grid points' blocks tile the result, and each is the block of one function of the arguments.
-/

@[expose] public section
set_option maxRecDepth 4096
noncomputable section
namespace Cert.ProbIdeal.Run
open Cert.ProbIdeal Cert.ProbIdeal.Gen Cert.ProbIdeal.Value Cert.Layers
open Idealize.ShloMosaic Idealize.ShloMosaic.TcCoe Idealize.SL.Sem
open Idealize.ShloMosaic.ValueIdx (ix1 ix2 ix3 eq_ix1 eq_ix2 eq_ix3)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-! ## The arrays the grid reads -/

theorem V_v0 (c : Dev nD) : V m c main_v0
    = transpose S512x16 [1, 0] (m ((c : Thread nD τ).loc main_arg1)) transposes_S16x512_S512x16_1_0 := by
  show StableHlo.after hostOps0 _ _ = _
  after_results

theorem V_v1 (c : Dev nD) : V m c main_v1
    = transpose S512x16 [1, 0] (m ((c : Thread nD τ).loc main_arg2)) transposes_S16x512_S512x16_1_0 := by
  show StableHlo.after hostOps0 _ _ = _
  after_results

theorem V_v2 (c : Dev nD) : V m c main_v2
    = shapeCast S1x16 (m ((c : Thread nD τ).loc main_arg3)) shapeCasts_S16_S1x16 := by
  show StableHlo.after hostOps0 _ _ = _
  after_results
  rfl

theorem V_v3 (c : Dev nD) : V m c main_v3
    = shapeCast S1x16 (m ((c : Thread nD τ).loc main_arg4)) shapeCasts_S16_S1x16 := by
  show StableHlo.after hostOps0 _ _ = _
  after_results
  rfl

theorem V_v4 (c : Dev nD) : V m c main_v4
    = transpose S16x16384 [1, 0] (m ((c : Thread nD τ).loc main_arg5)) transposes_S16384x16_S16x16384_1_0 := by
  show StableHlo.after hostOps0 _ _ = _
  after_results

theorem V_v5 (c : Dev nD) : V m c main_v5
    = transpose S16x16384 [1, 0] (m ((c : Thread nD τ).loc main_arg6)) transposes_S16384x16_S16x16384_1_0 := by
  show StableHlo.after hostOps0 _ _ = _
  after_results

theorem V_v6 (c : Dev nD) : V m c main_v6
    = shapeCast S128x128 (m ((c : Thread nD τ).loc main_arg7)) shapeCasts_S16384_S128x128 := by
  show StableHlo.after hostOps0 _ _ = _
  after_results
  rfl

theorem V_v7 (c : Dev nD) : V m c main_v7
    = shapeCast S128x128 (m ((c : Thread nD τ).loc main_arg8)) shapeCasts_S16384_S128x128 := by
  show StableHlo.after hostOps0 _ _ = _
  after_results
  rfl

theorem V_v8 (c : Dev nD) : V m c main_v8
    = transpose S512x16 [1, 0] (m ((c : Thread nD τ).loc main_arg9)) transposes_S16x512_S512x16_1_0 := by
  show StableHlo.after hostOps0 _ _ = _
  after_results

theorem V_v9 (c : Dev nD) : V m c main_v9
    = shapeCast S1x16 (m ((c : Thread nD τ).loc main_arg10)) shapeCasts_S16_S1x16 := by
  show StableHlo.after hostOps0 _ _ = _
  after_results
  rfl

theorem V_v10 (c : Dev nD) : V m c main_v10
    = transpose S16x16384 [1, 0] (m ((c : Thread nD τ).loc main_arg11)) transposes_S16384x16_S16x16384_1_0 := by
  show StableHlo.after hostOps0 _ _ = _
  after_results

theorem V_v11 (c : Dev nD) : V m c main_v11
    = shapeCast S128x128 (m ((c : Thread nD τ).loc main_arg12)) shapeCasts_S16384_S128x128 := by
  show StableHlo.after hostOps0 _ _ = _
  after_results
  rfl

/-! ## The windows -/

/-- The block index of the input and of the result is the grid point; the other windows take the whole of their arrays. -/
theorem idx0 : ∀ t : Fin cfg0.N, win0_0.index t (0 : Fin 2) = t.val ∧ win0_0.index t (1 : Fin 2) = 0 :=
  (by decide +kernel : ∀ t : Fin grid0.N, _)
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem iblk1_eq (c : Dev nD) (t : Fin cfg0.N) : iblk m c 1 t = V m c main_v0 := by
  funext j
  refine congrArg (V m c main_v0) (?_ : ((cfg0.win 1).blk t).view.emb j = j)
  obtain ⟨e0, e1⟩ := idx1 t
  funext a; apply Fin.ext
  match a with
  | ⟨0, _⟩ => show win0_1.index t (0 : Fin 2) * 512 + 1 * (j 0).val = (j 0).val; omega
  | ⟨1, _⟩ => show win0_1.index t (1 : Fin 2) * 16 + 1 * (j 1).val = (j 1).val; omega

theorem idx2 : ∀ t : Fin cfg0.N, win0_2.index t (0 : Fin 2) = 0 ∧ win0_2.index t (1 : Fin 2) = 0 :=
  (by decide +kernel : ∀ t : Fin grid0.N, _)

theorem iblk2_eq (c : Dev nD) (t : Fin cfg0.N) : iblk m c 2 t = V m c main_v1 := by
  funext j
  refine congrArg (V m c main_v1) (?_ : ((cfg0.win 2).blk t).view.emb j = j)
  obtain ⟨e0, e1⟩ := idx2 t
  funext a; apply Fin.ext
  match a with
  | ⟨0, _⟩ => show win0_2.index t (0 : Fin 2) * 512 + 1 * (j 0).val = (j 0).val; omega
  | ⟨1, _⟩ => show win0_2.index t (1 : Fin 2) * 16 + 1 * (j 1).val = (j 1).val; omega

theorem idx3 : ∀ t : Fin cfg0.N, win0_3.index t (0 : Fin 2) = 0 ∧ win0_3.index t (1 : Fin 2) = 0 :=
  (by decide +kernel : ∀ t : Fin grid0.N, _)

theorem iblk3_eq (c : Dev nD) (t : Fin cfg0.N) : iblk m c 3 t = V m c main_v2 := by
  funext j
  refine congrArg (V m c main_v2) (?_ : ((cfg0.win 3).blk t).view.emb j = j)
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 16 + 1 * (j 1).val = (j 1).val; omega

theorem idx4 : ∀ t : Fin cfg0.N, win0_4.index t (0 : Fin 2) = 0 ∧ win0_4.index t (1 : Fin 2) = 0 :=
  (by decide +kernel : ∀ t : Fin grid0.N, _)

theorem iblk4_eq (c : Dev nD) (t : Fin cfg0.N) : iblk m c 4 t = V m c main_v3 := by
  funext j
  refine congrArg (V m c main_v3) (?_ : ((cfg0.win 4).blk t).view.emb j = j)
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 16 + 1 * (j 1).val = (j 1).val; omega

theorem idx5 : ∀ t : Fin cfg0.N, win0_5.index t (0 : Fin 2) = 0 ∧ win0_5.index t (1 : Fin 2) = 0 :=
  (by decide +kernel : ∀ t : Fin grid0.N, _)

theorem iblk5_eq (c : Dev nD) (t : Fin cfg0.N) : iblk m c 5 t = V m c main_v4 := by
  funext j
  refine congrArg (V m c main_v4) (?_ : ((cfg0.win 5).blk t).view.emb j = j)
  obtain ⟨e0, e1⟩ := idx5 t
  funext a; apply Fin.ext
  match a with
  | ⟨0, _⟩ => show win0_5.index t (0 : Fin 2) * 16 + 1 * (j 0).val = (j 0).val; omega
  | ⟨1, _⟩ => show win0_5.index t (1 : Fin 2) * 16384 + 1 * (j 1).val = (j 1).val; omega

theorem idx6 : ∀ t : Fin cfg0.N, win0_6.index t (0 : Fin 2) = 0 ∧ win0_6.index t (1 : Fin 2) = 0 :=
  (by decide +kernel : ∀ t : Fin grid0.N, _)

theorem iblk6_eq (c : Dev nD) (t : Fin cfg0.N) : iblk m c 6 t = V m c main_v5 := by
  funext j
  refine congrArg (V m c main_v5) (?_ : ((cfg0.win 6).blk t).view.emb j = j)
  obtain ⟨e0, e1⟩ := idx6 t
  funext a; apply Fin.ext
  match a with
  | ⟨0, _⟩ => show win0_6.index t (0 : Fin 2) * 16 + 1 * (j 0).val = (j 0).val; omega
  | ⟨1, _⟩ => show win0_6.index t (1 : Fin 2) * 16384 + 1 * (j 1).val = (j 1).val; omega

theorem idx7 : ∀ t : Fin cfg0.N, win0_7.index t (0 : Fin 2) = 0 ∧ win0_7.index t (1 : Fin 2) = 0 :=
  (by decide +kernel : ∀ t : Fin grid0.N, _)

theorem iblk7_eq (c : Dev nD) (t : Fin cfg0.N) : iblk m c 7 t = V m c main_v6 := by
  funext j
  refine congrArg (V m c main_v6) (?_ : ((cfg0.win 7).blk t).view.emb j = j)
  obtain ⟨e0, e1⟩ := idx7 t
  funext a; apply Fin.ext
  match a with
  | ⟨0, _⟩ => show win0_7.index t (0 : Fin 2) * 128 + 1 * (j 0).val = (j 0).val; omega
  | ⟨1, _⟩ => show win0_7.index t (1 : Fin 2) * 128 + 1 * (j 1).val = (j 1).val; omega

theorem idx8 : ∀ t : Fin cfg0.N, win0_8.index t (0 : Fin 2) = 0 ∧ win0_8.index t (1 : Fin 2) = 0 :=
  (by decide +kernel : ∀ t : Fin grid0.N, _)

theorem iblk8_eq (c : Dev nD) (t : Fin cfg0.N) : iblk m c 8 t = V m c main_v7 := by
  funext j
  refine congrArg (V m c main_v7) (?_ : ((cfg0.win 8).blk t).view.emb j = j)
  obtain ⟨e0, e1⟩ := idx8 t
  funext a; apply Fin.ext
  match a with
  | ⟨0, _⟩ => show win0_8.index t (0 : Fin 2) * 128 + 1 * (j 0).val = (j 0).val; omega
  | ⟨1, _⟩ => show win0_8.index t (1 : Fin 2) * 128 + 1 * (j 1).val = (j 1).val; omega

theorem idx9 : ∀ t : Fin cfg0.N, win0_9.index t (0 : Fin 2) = 0 ∧ win0_9.index t (1 : Fin 2) = 0 :=
  (by decide +kernel : ∀ t : Fin grid0.N, _)

theorem iblk9_eq (c : Dev nD) (t : Fin cfg0.N) : iblk m c 9 t = V m c main_v8 := by
  funext j
  refine congrArg (V m c main_v8) (?_ : ((cfg0.win 9).blk t).view.emb j = j)
  obtain ⟨e0, e1⟩ := idx9 t
  funext a; apply Fin.ext
  match a with
  | ⟨0, _⟩ => show win0_9.index t (0 : Fin 2) * 512 + 1 * (j 0).val = (j 0).val; omega
  | ⟨1, _⟩ => show win0_9.index t (1 : Fin 2) * 16 + 1 * (j 1).val = (j 1).val; omega

theorem idx10 : ∀ t : Fin cfg0.N, win0_10.index t (0 : Fin 2) = 0 ∧ win0_10.index t (1 : Fin 2) = 0 :=
  (by decide +kernel : ∀ t : Fin grid0.N, _)

theorem iblk10_eq (c : Dev nD) (t : Fin cfg0.N) : iblk m c 10 t = V m c main_v9 := by
  funext j
  refine congrArg (V m c main_v9) (?_ : ((cfg0.win 10).blk t).view.emb j = j)
  obtain ⟨e0, e1⟩ := idx10 t
  funext a; apply Fin.ext
  match a with
  | ⟨0, _⟩ => show win0_10.index t (0 : Fin 2) * 1 + 1 * (j 0).val = (j 0).val; omega
  | ⟨1, _⟩ => show win0_10.index t (1 : Fin 2) * 16 + 1 * (j 1).val = (j 1).val; omega

theorem idx11 : ∀ t : Fin cfg0.N, win0_11.index t (0 : Fin 2) = 0 ∧ win0_11.index t (1 : Fin 2) = 0 :=
  (by decide +kernel : ∀ t : Fin grid0.N, _)

theorem iblk11_eq (c : Dev nD) (t : Fin cfg0.N) : iblk m c 11 t = V m c main_v10 := by
  funext j
  refine congrArg (V m c main_v10) (?_ : ((cfg0.win 11).blk t).view.emb j = j)
  obtain ⟨e0, e1⟩ := idx11 t
  funext a; apply Fin.ext
  match a with
  | ⟨0, _⟩ => show win0_11.index t (0 : Fin 2) * 16 + 1 * (j 0).val = (j 0).val; omega
  | ⟨1, _⟩ => show win0_11.index t (1 : Fin 2) * 16384 + 1 * (j 1).val = (j 1).val; omega

theorem idx12 : ∀ t : Fin cfg0.N, win0_12.index t (0 : Fin 2) = 0 ∧ win0_12.index t (1 : Fin 2) = 0 :=
  (by decide +kernel : ∀ t : Fin grid0.N, _)

theorem iblk12_eq (c : Dev nD) (t : Fin cfg0.N) : iblk m c 12 t = V m c main_v11 := by
  funext j
  refine congrArg (V m c main_v11) (?_ : ((cfg0.win 12).blk t).view.emb j = j)
  obtain ⟨e0, e1⟩ := idx12 t
  funext a; apply Fin.ext
  match a with
  | ⟨0, _⟩ => show win0_12.index t (0 : Fin 2) * 128 + 1 * (j 0).val = (j 0).val; omega
  | ⟨1, _⟩ => show win0_12.index t (1 : Fin 2) * 128 + 1 * (j 1).val = (j 1).val; omega

/-- Row `p` of grid point `t`. -/
def row (t : Fin cfg0.N) (p : Fin 128) : Fin 1024 := ⟨t.val * 128 + p.val, by
  have h : t.val < 8 := t.isLt.trans_eq N_0
  omega⟩

theorem iblk0_apply (c : Dev nD) (t : Fin cfg0.N) (p : Fin 128) (i : Fin 512) :
    iblk m c 0 t (ix2 p i) = m ((c : Thread nD τ).loc main_arg0) (ix2 (row t p) i) := by
  refine (congrArg (V m c main_arg0) (?_ : ((cfg0.win 0).blk t).view.emb (ix2 p i) = ix2 (row t p) i)).trans
    (congrFun (V_main_arg0 m c) _)
  obtain ⟨e0, e1⟩ := idx0 t
  funext a; apply Fin.ext
  match a with
  | ⟨0, _⟩ => show win0_0.index t (0 : Fin 2) * 128 + 1 * p.val = t.val * 128 + p.val; omega
  | ⟨1, _⟩ => show win0_0.index t (1 : Fin 2) * 512 + 1 * i.val = i.val; omega

theorem emb13 (t : Fin cfg0.N) (p n k : Fin 128) : ((cfg0.win 13).blk t).view.emb (ix3 p n k) = ix3 (row t p) n k := by
  obtain ⟨e0, e1, e2⟩ := idx13 t
  funext a; apply Fin.ext
  match a with
  | ⟨0, _⟩ => show win0_13.index t (0 : Fin 3) * 128 + 1 * p.val = t.val * 128 + p.val; omega
  | ⟨1, _⟩ => show win0_13.index t (1 : Fin 3) * 128 + 1 * n.val = n.val; omega
  | ⟨2, _⟩ => show win0_13.index t (2 : Fin 3) * 128 + 1 * k.val = k.val; omega

/-! ## Reading a transposed or reshaped array -/

theorem transpose_first (v : FVec Ideal S16x512 .f32) (i : Fin 512) (j : Fin 16) :
    (transpose S512x16 [1, 0] v transposes_S16x512_S512x16_1_0 : FVec Ideal S512x16 .f32) (ix2 i j) = v (ix2 j i) :=
  transpose_apply _ _ _ (ix2 i j) (ix2 j i) (fun b => by match b with | 0 => rfl | 1 => rfl)

theorem transpose_second (v : FVec Ideal S16384x16 .f32) (i : Fin 16) (j : Fin 16384) :
    (transpose S16x16384 [1, 0] v transposes_S16384x16_S16x16384_1_0 : FVec Ideal S16x16384 .f32) (ix2 i j) = v (ix2 j i) :=
  transpose_apply _ _ _ (ix2 i j) (ix2 j i) (fun b => by match b with | 0 => rfl | 1 => rfl)

theorem reshape_first (v : FVec Ideal S16 .f32) (j : Fin 16) :
    (shapeCast S1x16 v shapeCasts_S16_S1x16 : FVec Ideal S1x16 .f32) (ix2 0 j) = v (ix1 j) :=
  shapeCast_apply _ _ (ix2 0 j) (ix1 j) (by
    rw [Shape.rowMajor_val_one, Shape.rowMajor_val_two]
    show j.val = 0 * 16 + j.val
    omega)

theorem reshape_second (v : FVec Ideal S16384 .f32) (n k : Fin 128) :
    (shapeCast S128x128 v shapeCasts_S16384_S128x128 : FVec Ideal S128x128 .f32) (ix2 n k) = v (ix1 (at2 n k)) :=
  shapeCast_apply _ _ (ix2 n k) (ix1 (at2 n k)) (by
    rw [Shape.rowMajor_val_one, Shape.rowMajor_val_two]
    rfl)

/-! ## The result -/

/-- The probabilities, as one function of the arguments. -/
def result (c : Dev nD) : Buf (Elt Ideal) ((c : Thread nD τ).loc main_v12) := fun i =>
  probOf (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12)) (i 0) (i 1) (i 2)

/-- What a grid point writes back, at an index. -/
theorem out_apply (c : Dev nD) (t : Fin cfg0.N) (p n k : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 p n k)
      = result m c (ix3 (row t p) n k) := by
  unfold out0_13
  rw [View.canon_unit_zero hz3, View.ld_unit_zero hz2, View.ld_unit_zero hz2, View.ld_unit_zero hz2, View.ld_unit_zero hz2,
    View.ld_unit_zero hz2, View.ld_unit_zero hz2, View.ld_unit_zero hz2, View.ld_unit_zero hz2, View.ld_unit_zero hz2,
    View.ld_unit_zero hz2, View.ld_unit_zero hz2, View.ld_unit_zero hz2, View.ld_unit_zero hz2]
  refine (Block.block_apply (iblk m c 0 t) (iblk m c 1 t) (iblk m c 2 t) (iblk m c 9 t) (iblk m c 3 t) (iblk m c 4 t)
    (iblk m c 10 t) (iblk m c 5 t) (iblk m c 6 t) (iblk m c 11 t) (iblk m c 7 t) (iblk m c 8 t) (iblk m c 12 t) p n k).trans ?_
  rw [iblk1_eq, iblk2_eq, iblk3_eq, iblk4_eq, iblk5_eq, iblk6_eq, iblk7_eq, iblk8_eq, iblk9_eq, iblk10_eq, iblk11_eq, iblk12_eq,
    V_v0, V_v1, V_v2, V_v3, V_v4, V_v5, V_v6, V_v7, V_v8, V_v9, V_v10, V_v11]
  refine congrArg (fun l => soft l n) (funext fun q => ?_)
  refine congrArg cut (congrArg₂ (fun a b : EReal => a + b) (Finset.sum_congr rfl fun i _ =>
    congrArg₂ (fun a b : EReal => a * b) (dense_congr (fun i => iblk0_apply m c t p i) (fun j i => ?_) (fun j => ?_) i) ?_) ?_)
  · exact weight_congr (transpose_first _ i j) (transpose_first _ i j) (transpose_first _ i j)
  · exact weight_congr (reshape_first _ j) (reshape_first _ j) (reshape_first _ j)
  · exact weight_congr (transpose_second _ i (at2 q k)) (transpose_second _ i (at2 q k)) (transpose_second _ i (at2 q k))
  · exact weight_congr (reshape_second _ q k) (reshape_second _ q k) (reshape_second _ q k)

/-- What point `t` writes back is its block of the result. -/
theorem flushed_eq (c : Dev nD) (t : Fin cfg0.N) :
    (dats m 0 c).flushed 13 t = ((cfg0.win 13).blk t).view.read (Elt Ideal) (result m c) := by
  rw [flushed13]
  funext j
  have e := eq_ix3 j
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j = result m c (((cfg0.win 13).blk t).view.emb j)
  rw [e]
  exact (out_apply m c t (j 0) (j 1) (j 2)).trans (congrArg (result m c) (emb13 t (j 0) (j 1) (j 2)).symm)

/-- Every index of the result is in some point's block. -/
theorem cover (i : S1024x128x128.Idx) :
    ∃ t : Fin cfg0.N, (cfg0.win 13).flush t = true ∧ i ∈ ((cfg0.win 13).blk t).view.set := by
  have h0 : (i 0).val < 1024 := (i 0).isLt
  let t : Fin cfg0.N := ⟨(i 0).val / 128, lt_of_lt_of_eq (by omega : (i 0).val / 128 < 8) N_0.symm⟩
  let p : Fin 128 := ⟨(i 0).val % 128, Nat.mod_lt _ (by decide)⟩
  refine ⟨t, flush0_13 t, ?_⟩
  have e : ix3 (row t p) (i 1) (i 2) = i := by
    refine Eq.trans ?_ (eq_ix3 i).symm
    refine congrArg (fun x => ix3 x (i 1) (i 2)) (Fin.ext ?_)
    show (i 0).val / 128 * 128 + (i 0).val % 128 = (i 0).val
    omega
  have h : ((cfg0.win 13).blk t).view.emb (ix3 p (i 1) (i 2)) ∈ ((cfg0.win 13).blk t).view.set :=
    ((cfg0.win 13).blk t).view.emb_mem_set (ix3 p (i 1) (i 2))
  exact ((emb13 t p (i 1) (i 2)).trans e) ▸ h

/-- The result array after the run. -/
theorem final (c : Dev nD) : (dats m 0 c).arrAt 13 cfg0.N = result m c :=
  (dats m 0 c).arrAt_eq_of_cover 13 (result m c) (fun t _ => flushed_eq m c t) cover

/-- The run: the result at its function of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.ProbIdeal.Run
-- ==== Proof.ProbReference.lean ====
module

public import proofs.«01_k».proof.Proof.Gen.ProbReferenceIdeal.Run
public import proofs.«01_k».proof.Proof.Layers
public import proofs.«01_k».proof.Defs

/-!
# The reference's probabilities

The reference's operations, read at an index: the probability that the row leads to.
-/

@[expose] public section
set_option maxRecDepth 8192
noncomputable section
namespace Cert.ProbReferenceIdeal.Run
open Cert.ProbReferenceIdeal Cert.ProbReferenceIdeal.Gen Cert.ProbReferenceIdeal.Value Cert.Layers
open Idealize.ShloMosaic Idealize.ShloMosaic.TcCoe Idealize.SL.Sem
open Idealize.ShloMosaic.StackMember (dotGeneral_plain_apply)
open Idealize.ShloMosaic.ValueIdx (ix1 ix2 ix3 eq_ix1 eq_ix2 eq_ix3)

/-! ## The operations, in stages -/

/-- The first layer. -/
def hidden (x : FVec Ideal S1024x512 .f32) (w r e : FVec Ideal S16x512 .f32) (b s f : FVec Ideal S16 .f32) : FVec Ideal S1024x16 .f32 :=
  maximumf (addf (Host.dotGeneral dot_S1024x512_S512x16_S1024x16_1_0_0_1_n_n none x
    (transpose S512x16 [1, 0] (addf w (mulf (Host.log (addf (broadcastInDim S16x512 ![] bcast_S_S16x512 (constant S_ .f32 0x3F800000#32)) (Host.exp r))) e)) transposes_S16x512_S512x16_1_0))
    (broadcastInDim S1024x16 ![0, 1] bcast_S1x16_S1024x16_0_1 (broadcastInDim S1x16 ![1] bcast_S16_S1x16_1
      (addf b (mulf (Host.log (addf (broadcastInDim S16 ![] bcast_S_S16 (constant S_ .f32 0x3F800000#32)) (Host.exp s))) f)))))
    (broadcastInDim S1024x16 ![] bcast_S_S1024x16 (constant S_ .f32 0x00000000#32))

/-- The second layer. -/
def values (h : FVec Ideal S1024x16 .f32) (w r e : FVec Ideal S16384x16 .f32) (b s f : FVec Ideal S16384 .f32) : FVec Ideal S1024x16384 .f32 :=
  maximumf (addf (Host.dotGeneral dot_S1024x16_S16x16384_S1024x16384_1_0_0_1_n_n none h
    (transpose S16x16384 [1, 0] (addf w (mulf (Host.log (addf (broadcastInDim S16384x16 ![] bcast_S_S16384x16 (constant S_ .f32 0x3F800000#32)) (Host.exp r))) e)) transposes_S16384x16_S16x16384_1_0))
    (broadcastInDim S1024x16384 ![0, 1] bcast_S1x16384_S1024x16384_0_1 (broadcastInDim S1x16384 ![1] bcast_S16384_S1x16384_1
      (addf b (mulf (Host.log (addf (broadcastInDim S16384 ![] bcast_S_S16384 (constant S_ .f32 0x3F800000#32)) (Host.exp s))) f)))))
    (broadcastInDim S1024x16384 ![] bcast_S_S1024x16384 (constant S_ .f32 0x00000000#32))

/-- A value per column, laid out again along the column. -/
def spread (v : FVec Ideal S1024x128 .f32) : FVec Ideal S1024x128x128 .f32 :=
  broadcastInDim S1024x128x128 ![0, 1, 2] bcast_S1024x1x128_S1024x128x128_0_1_2 (broadcastInDim S1024x1x128 ![0, 2] bcast_S1024x128_S1024x1x128_0_2 v)

/-- Each column's greatest, from `-∞`. -/
def tops (y : FVec Ideal S1024x128x128 .f32) : FVec Ideal S1024x128 .f32 :=
  Host.reduce FloatOps.maximumf y (constant S_ .f32 0xFF800000#32) reducesTo_S1024x128x128_S1024x128_d1 h_S_

/-- The same, `-∞` put in once more. -/
def tops' (y : FVec Ideal S1024x128x128 .f32) : FVec Ideal S1024x128 .f32 :=
  maximumf (broadcastInDim S1024x128 ![] bcast_S_S1024x128 (constant S_ .f32 0xFF800000#32)) (tops y)

/-- Each column's sum. -/
def sums (y : FVec Ideal S1024x128x128 .f32) : FVec Ideal S1024x128 .f32 :=
  Host.reduceAdd y (constant S_ .f32 0x00000000#32) reducesTo_S1024x128x128_S1024x128_d1 h_S_

/-- The exponentials of the squares, each column's greatest taken off first. -/
def expo (y : FVec Ideal S1024x128x128 .f32) : FVec Ideal S1024x128x128 .f32 :=
  Host.exp (subf y (spread (tops' y)))

/-- The softmax of the squares. -/
def softmax (y : FVec Ideal S1024x128x128 .f32) : FVec Ideal S1024x128x128 .f32 :=
  Host.divf (expo y) (spread (sums (expo y)))

theorem res_eq (m : (ℓ : Loc nD τ sig) → Buf (Elt Ideal) ℓ) (c : Dev nD) : res_out0 m c
    = softmax (shapeCast S1024x128x128 (values (hidden (m ((c.tc : Thread nD τ).loc main_arg0))
        (m ((c.tc : Thread nD τ).loc main_arg1)) (m ((c.tc : Thread nD τ).loc main_arg2)) (m ((c.tc : Thread nD τ).loc main_arg9))
        (m ((c.tc : Thread nD τ).loc main_arg3)) (m ((c.tc : Thread nD τ).loc main_arg4)) (m ((c.tc : Thread nD τ).loc main_arg10)))
        (m ((c.tc : Thread nD τ).loc main_arg5)) (m ((c.tc : Thread nD τ).loc main_arg6)) (m ((c.tc : Thread nD τ).loc main_arg11))
        (m ((c.tc : Thread nD τ).loc main_arg7)) (m ((c.tc : Thread nD τ).loc main_arg8)) (m ((c.tc : Thread nD τ).loc main_arg12)))
      shapeCasts_S1024x16384_S1024x128x128) := by
  unfold res_out0 res_main_v47
  rfl

/-! ## Each stage at an index -/

theorem hidden_apply (x : FVec Ideal S1024x512 .f32) (w r e : FVec Ideal S16x512 .f32) (b s f : FVec Ideal S16 .f32)
    (p : Fin 1024) (j : Fin 16) :
    hidden x w r e b s f (ix2 p j)
      = dense (fun i => x (ix2 p i)) (fun j i => weight (w (ix2 j i)) (r (ix2 j i)) (e (ix2 j i)))
          (fun j => weight (b (ix1 j)) (s (ix1 j)) (f (ix1 j))) j := by
  unfold dense cut
  refine congrArg₂ (fun a b : EReal => max a b) (congrArg₂ (fun a b : EReal => a + b) ?_ ?_) ?_
  · refine (dotGeneral_plain_apply none _ _ p j).trans (Finset.sum_congr rfl fun i _ => congrArg (fun z : EReal => x (ix2 p i) * z) ?_)
    refine (transpose_apply _ _ _ (ix2 i j) (ix2 j i) (fun b => by match b with | 0 => rfl | 1 => rfl)).trans ?_
    exact weight_congr rfl rfl rfl
  · refine (broadcastInDim_apply _ _ _ (ix2 p j) (ix2 0 j) (fun a => by match a with | 0 => rfl | 1 => rfl)).trans ?_
    refine (broadcastInDim_apply _ _ _ (ix2 0 j) (ix1 j) (fun a => by match a with | 0 => rfl)).trans ?_
    exact weight_congr rfl rfl rfl
  · rfl

theorem values_apply (h : FVec Ideal S1024x16 .f32) (w r e : FVec Ideal S16384x16 .f32) (b s f : FVec Ideal S16384 .f32)
    (p : Fin 1024) (q : Fin 16384) :
    values h w r e b s f (ix2 p q)
      = dense (fun i => h (ix2 p i)) (fun q i => weight (w (ix2 q i)) (r (ix2 q i)) (e (ix2 q i)))
          (fun q => weight (b (ix1 q)) (s (ix1 q)) (f (ix1 q))) q := by
  unfold dense cut
  refine congrArg₂ (fun a b : EReal => max a b) (congrArg₂ (fun a b : EReal => a + b) ?_ ?_) ?_
  · refine (dotGeneral_plain_apply none _ _ p q).trans (Finset.sum_congr rfl fun i _ => congrArg (fun z : EReal => h (ix2 p i) * z) ?_)
    refine (transpose_apply _ _ _ (ix2 i q) (ix2 q i) (fun b => by match b with | 0 => rfl | 1 => rfl)).trans ?_
    exact weight_congr rfl rfl rfl
  · refine (broadcastInDim_apply _ _ _ (ix2 p q) (ix2 0 q) (fun a => by match a with | 0 => rfl | 1 => rfl)).trans ?_
    refine (broadcastInDim_apply _ _ _ (ix2 0 q) (ix1 q) (fun a => by match a with | 0 => rfl)).trans ?_
    exact weight_congr rfl rfl rfl
  · rfl

theorem spread_apply (v : FVec Ideal S1024x128 .f32) (p : Fin 1024) (n k : Fin 128) : spread v (ix3 p n k) = v (ix2 p k) := by
  refine (broadcastInDim_apply _ _ _ (ix3 p n k) (ix3 p 0 k) (fun a => by match a with | 0 => rfl | 1 => rfl | 2 => rfl)).trans ?_
  exact broadcastInDim_apply _ _ _ (ix3 p 0 k) (ix2 p k) (fun a => by match a with | 0 => rfl | 1 => rfl)

theorem reduces : S1024x128x128.Reduces [1] S1024x128 := by decide

theorem tops_apply (y : FVec Ideal S1024x128x128 .f32) (p : Fin 1024) (k : Fin 128) :
    tops y (ix2 p k) = top (fun i => y (ix3 p i k)) := by
  unfold tops
  rw [hostReduce_maximumf_eq_multiReduction y 0xFF800000#32 reducesTo_S1024x128x128_S1024x128_d1 h_S_ reduces (.inl rfl) rfl]
  exact max_apply y reduces _ _ p k

theorem maximumf_at (a b : FVec Ideal S1024x128 .f32) (i : S1024x128.Idx) : maximumf a b i = max (a i : EReal) (b i) := rfl

theorem tops'_apply (y : FVec Ideal S1024x128x128 .f32) (p : Fin 1024) (k : Fin 128) :
    tops' y (ix2 p k) = top (fun i => y (ix3 p i k)) := by
  unfold tops'
  rw [maximumf_at, tops_apply]
  exact max_top fun i => y (ix3 p i k)

theorem sums_apply (y : FVec Ideal S1024x128x128 .f32) (p : Fin 1024) (k : Fin 128) :
    sums y (ix2 p k) = ∑ i : Fin 128, (y (ix3 p i k) : EReal) := by
  refine (Ideal.hostReduceAdd_single reducesTo_S1024x128x128_S1024x128_d1 reduces y _ (ix2 p k)).trans ?_
  refine (congrArg (fun z : EReal => z + _) Ideal.ofBits_zero_f32).trans ((zero_add _).trans ?_)
  exact Finset.sum_congr rfl fun i _ => congrArg y (lift_eq reduces p k i)

theorem exp_sub_at (a b : FVec Ideal S1024x128x128 .f32) (i : S1024x128x128.Idx) :
    Host.exp (subf a b) i = Ideal.exp ((a i : EReal) - b i) := rfl

theorem div_at (a b : FVec Ideal S1024x128x128 .f32) (i : S1024x128x128.Idx) : Host.divf a b i = Ideal.div (a i) (b i) := rfl

theorem expo_apply (y : FVec Ideal S1024x128x128 .f32) (p : Fin 1024) (n k : Fin 128) :
    expo y (ix3 p n k) = Ideal.exp ((y (ix3 p n k) : EReal) - top (fun i => y (ix3 p i k))) := by
  unfold expo
  rw [exp_sub_at, spread_apply, tops'_apply]

theorem softmax_apply (y : FVec Ideal S1024x128x128 .f32) (p : Fin 1024) (n k : Fin 128) :
    softmax y (ix3 p n k) = soft (fun i => y (ix3 p i k)) n := by
  unfold softmax soft
  rw [div_at, spread_apply, sums_apply, expo_apply]
  exact congrArg (fun z : EReal => Ideal.div _ z) (Finset.sum_congr rfl fun i _ => expo_apply y p i k)

/-- The reference's probabilities, as one function of the arguments. -/
theorem res_apply (m : (ℓ : Loc nD τ sig) → Buf (Elt Ideal) ℓ) (c : Dev nD) (p : Fin 1024) (n k : Fin 128) :
    res_out0 m c (ix3 p n k) = probOf
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) p n k := by
  refine (congrFun (res_eq m c) (ix3 p n k)).trans ?_
  refine (softmax_apply _ p n k).trans ?_
  refine congrArg (fun l => soft l n) (funext fun i => ?_)
  refine (shapeCast_apply _ _ (ix3 p i k) (ix2 p (at2 i k)) ?_).trans ?_
  · rw [Shape.rowMajor_val_two, Shape.rowMajor_val_three]
    show p.val * 16384 + (i.val * 128 + k.val) = (p.val * 128 + i.val) * 128 + k.val
    omega
  · refine (values_apply _ _ _ _ _ _ _ p (at2 i k)).trans ?_
    exact dense_congr (fun j => hidden_apply _ _ _ _ _ _ _ p j) (fun _ _ => rfl) (fun _ => rfl) (at2 i k)

/-- The reference's run leaves its arguments unchanged. -/
theorem frame : Cert.quiescent_ProbReferenceIdeal := fun m ρ _ =>
  (θ_run Cert.ProbReferenceIdeal.defs _ _).mono
    (fun r h => ⟨fun c => (h c).2, Idealize.ShloMosaic.sem_eq_zero_of_no_sems (by decide) r.2⟩)
    (Value.run (F := Ideal) m ρ)

end Cert.ProbReferenceIdeal.Run
-- ==== Proof.lean ====
module

public import proofs.«01_k».proof.Defs
public import proofs.«01_k».proof.Proof.KernelRun
public import proofs.«01_k».proof.Proof.KernelIdealRun
public import proofs.«01_k».proof.Proof.ReferenceRun
public import proofs.«01_k».proof.Proof.Gen.Prob
public import proofs.«01_k».proof.Proof.Gen.Prob.Frame
public import proofs.«01_k».proof.Proof.Gen.ProbIdeal
public import proofs.«01_k».proof.Proof.Gen.ProbIdeal.Frame
public import proofs.«01_k».proof.Proof.Gen.ProbIdeal.Value
public import proofs.«01_k».proof.Proof.Gen.ProbReferenceIdeal
public import proofs.«01_k».proof.Proof.Gen.ProbReferenceIdeal.Run
public import proofs.«01_k».proof.Proof.ProbRun
public import proofs.«01_k».proof.Proof.ProbReference

/-!
# The certificate

Each program runs to the end, leaves its argument unchanged and its semaphores at zero; the kernel over the ideal floats is the
kernel itself; and over the ideal floats the kernel's result is the reference's.
-/

@[expose] public section
noncomputable section
namespace Cert.Proof
open Idealize.ShloMosaic Idealize.SL.Sem

/-- The kernel's result is the reference's: both are the mask of the operand's rows. -/
theorem algebraic : Cert.algebraic_KernelIdeal_ReferenceIdeal := by
  intro m g m' g' _ hagree
  refine ⟨fun c => Cert.KernelIdeal.Topk.G (F := Ideal) m c, ?_, ?_⟩
  · exact (θ_run Cert.KernelIdeal.defs _ _).mono (fun r h c => ⟨(h.1 c).2, (h.1 c).1⟩) (Cert.KernelIdeal.Topk.run_main m g)
  · refine (θ_run Cert.ReferenceIdeal.defs _ _).mono (fun r h c => ⟨?_, ?_⟩) (Cert.ReferenceIdeal.Topk.run_main (F := Ideal) m' g')
    · refine (h c Cert.ReferenceIdeal.main_v6).trans ((Cert.ReferenceIdeal.Topk.out_eq _).trans ((Cert.ReferenceIdeal.Topk.out_mask _).trans ?_))
      exact congrArg (fun x => Cert.Topk.maskAt (F := Ideal) (n := 131072) x) (hagree c)
    · exact (h c Cert.ReferenceIdeal.main_arg0).trans (Cert.ReferenceIdeal.Topk.arg_eq _)

/-- The dense layers' probabilities are the reference's. -/
theorem algebraic_prob : Cert.algebraic_ProbIdeal_ProbReferenceIdeal := by
  intro m g m' g' _ hagree
  refine ⟨Cert.ProbIdeal.Run.result m, Cert.ProbIdeal.Run.run m g, ?_⟩
  refine (θ_run Cert.ProbReferenceIdeal.defs _ _).mono (fun r h c => ⟨(h c).1.trans ?_, (h c).2⟩)
    (Cert.ProbReferenceIdeal.Value.run (F := Ideal) m' g')
  obtain ⟨h0, h1, h2, h3, h4, h5, h6, h7, h8, h9, h10, h11, h12⟩ := hagree c
  funext i
  rw [Idealize.ShloMosaic.ValueIdx.eq_ix3 i]
  refine (Cert.ProbReferenceIdeal.Run.res_apply m' c (i 0) (i 1) (i 2)).trans ?_
  rw [h0, h1, h2, h3, h4, h5, h6, h7, h8, h9, h10, h11, h12]
  rfl

theorem claim : Cert.Claim :=
  ⟨Cert.Kernel.Gen.facts, Cert.KernelIdeal.Gen.facts, Cert.ReferenceIdeal.Gen.facts,
    Cert.Prob.Gen.facts, Cert.ProbIdeal.Gen.facts, Cert.ProbReferenceIdeal.Gen.facts,
    Cert.Kernel.Topk.frame, Cert.KernelIdeal.Topk.frame, Cert.ReferenceIdeal.Topk.frame,
    fun m ρ _ => Cert.Prob.Gen.frame m ρ, fun m ρ _ => Cert.ProbIdeal.Gen.frame m ρ, Cert.ProbReferenceIdeal.Run.frame,
    trivial, algebraic, trivial, algebraic_prob⟩

end Cert.Proof
end
